-- ==== Defs.lean ====
def Pre_Kernel [hPre_ids_in_rows : Cert.Pre_ids_in_rows.Facts] (m : (ℓ : Loc Cert.Kernel.nD Cert.Kernel.τ Cert.Kernel.sig) → Buf (Elt Bits) ℓ) : Prop :=
  ∀ c : Dev Cert.Kernel.nD,
    (Cert.Pre_ids_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_rows : Cert.Pre_ids_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_rows [hPre_ids_in_rows : Cert.Pre_ids_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ids_in_rows : Cert.Pre_ids_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_rows : Cert.Pre_ids_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_rows [hReferenceIdeal : Cert.ReferenceIdeal.Facts] [hPre_ids_in_rows : Cert.Pre_ids_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_rows : Cert.Pre_ids_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_rows : Cert.Pre_ids_in_rows.Facts),
    quiescent_Kernel (hKernel := hKernel) (hPre_ids_in_rows := hPre_ids_in_rows)
    ∧ quiescent_KernelIdeal (hKernelIdeal := hKernelIdeal) (hPre_ids_in_rows := hPre_ids_in_rows)
    ∧ quiescent_ReferenceIdeal (hReferenceIdeal := hReferenceIdeal)
    ∧ quiescent_ReferenceIdeal_pre_ids_in_rows (hReferenceIdeal := hReferenceIdeal) (hPre_ids_in_rows := hPre_ids_in_rows)
    ∧ preserves_Kernel_KernelIdeal
    ∧ algebraic_KernelIdeal_ReferenceIdeal (hKernelIdeal := hKernelIdeal) (hReferenceIdeal := hReferenceIdeal) (hPre_ids_in_rows := hPre_ids_in_rows)
-- ==== Pre_ids_in_rows.lean ====
abbrev S786432x32 : Shape := ⟨2, ![786432, 32]⟩
abbrev S1048576 : Shape := ⟨1, ![1048576]⟩
abbrev S_ : Shape := ⟨0, ![]⟩

class Facts : Prop where
  bcast_S_S1048576 : S_.BroadcastsInDim S1048576 (![] : Fin 0 → Fin S1048576.rank)

variable [Facts]

def fn {F : FTy → Type} [FloatOps F] (main_arg0 : FVec F S786432x32 .f32) (main_arg1 : IVec S1048576 32) : IVec S1048576 1 :=
  let main_c : IVec S_ 32 := constantI S_ 32 0#32
  let main_v0 : IVec S1048576 32 := broadcastInDim S1048576 ![] bcast_S_S1048576 main_c
  let main_v1 : IVec S1048576 1 := cmpi .sge main_arg1 main_v0
  let main_c_0 : IVec S_ 32 := constantI S_ 32 786432#32
  let main_v2 : IVec S1048576 32 := broadcastInDim S1048576 ![] bcast_S_S1048576 main_c_0
  let main_v3 : IVec S1048576 1 := cmpi .slt main_arg1 main_v2
  let main_v4 : IVec S1048576 1 := andi main_v1 main_v3
  main_v4
-- ==== Kernel.lean ====
abbrev S786432x32 : Shape := ⟨2, ![786432, 32]⟩
abbrev S1048576 : Shape := ⟨1, ![1048576]⟩
abbrev S1572864x16 : Shape := ⟨2, ![1572864, 16]⟩
abbrev S1048576x1 : Shape := ⟨2, ![1048576, 1]⟩
abbrev S_ : Shape := ⟨0, ![]⟩
abbrev S2 : Shape := ⟨1, ![2]⟩
abbrev S1x2 : Shape := ⟨2, ![1, 2]⟩
abbrev S1048576x2 : Shape := ⟨2, ![1048576, 2]⟩
abbrev S2097152 : Shape := ⟨1, ![2097152]⟩
abbrev S2097152x16 : Shape := ⟨2, ![2097152, 16]⟩
abbrev S2x1024 : Shape := ⟨2, ![2, 1024]⟩
abbrev S2x1024x16 : Shape := ⟨3, ![2, 1024, 16]⟩
abbrev S1x1024 : Shape := ⟨2, ![1, 1024]⟩
abbrev S1024 : Shape := ⟨1, ![1024]⟩
abbrev S1x1024x16 : Shape := ⟨3, ![1, 1024, 16]⟩
abbrev S1024x16 : Shape := ⟨2, ![1024, 16]⟩
abbrev S1 : Shape := ⟨1, ![1]⟩
abbrev S262144x128 : Shape := ⟨2, ![262144, 128]⟩
abbrev S1048576x32 : Shape := ⟨2, ![1048576, 32]⟩
abbrev S2x64x128 : Shape := ⟨3, ![2, 64, 128]⟩
abbrev S2x256x32 : Shape := ⟨3, ![2, 256, 32]⟩
abbrev S1x64x128 : Shape := ⟨3, ![1, 64, 128]⟩
abbrev S64x128 : Shape := ⟨2, ![64, 128]⟩
abbrev S1x256x32 : Shape := ⟨3, ![1, 256, 32]⟩
abbrev S256x32 : Shape := ⟨2, ![256, 32]⟩
abbrev S1x1x16 : Shape := ⟨3, ![1, 1, 16]⟩
abbrev S16 : Shape := ⟨1, ![16]⟩

abbrev nBuf : Table → Nat
  | .hbm => 17
  | .local .scVector .vmem => 4
  | _ => 0

abbrev bufTy : (tb : Table) → Fin (nBuf tb) → BufTy
  | .hbm, ⟨0, _⟩ => ⟨S786432x32, .f32⟩
  | .hbm, ⟨1, _⟩ => ⟨S1048576, .i32⟩
  | .hbm, ⟨2, _⟩ => ⟨S1572864x16, .f32⟩
  | .hbm, ⟨3, _⟩ => ⟨S1048576x1, .i32⟩
  | .hbm, ⟨4, _⟩ => ⟨S_, .i32⟩
  | .hbm, ⟨5, _⟩ => ⟨S1048576x1, .i32⟩
  | .hbm, ⟨6, _⟩ => ⟨S1048576x1, .i32⟩
  | .hbm, ⟨7, _⟩ => ⟨S2, .i32⟩
  | .hbm, ⟨8, _⟩ => ⟨S1x2, .i32⟩
  | .hbm, ⟨9, _⟩ => ⟨S1048576x2, .i32⟩
  | .hbm, ⟨10, _⟩ => ⟨S1048576x2, .i32⟩
  | .hbm, ⟨11, _⟩ => ⟨S1048576x2, .i32⟩
  | .hbm, ⟨12, _⟩ => ⟨S2097152, .i32⟩
  | .hbm, ⟨13, _⟩ => ⟨S2097152x16, .f32⟩
  | .hbm, ⟨14, _⟩ => ⟨S262144x128, .f32⟩
  | .hbm, ⟨15, _⟩ => ⟨S1048576x32, .f32⟩
  | .hbm, ⟨16, _⟩ => ⟨S1048576x32, .f32⟩
  | .local .scVector .vmem, ⟨0, _⟩ => ⟨S2x1024, .i32⟩
  | .local .scVector .vmem, ⟨1, _⟩ => ⟨S2x1024x16, .f32⟩
  | .local .scVector .vmem, ⟨2, _⟩ => ⟨S2x64x128, .f32⟩
  | .local .scVector .vmem, ⟨3, _⟩ => ⟨S2x256x32, .f32⟩
  | _, _ => ⟨S786432x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v0_scv : Ref sig .scVector := ⟨.hbm, 2, rfl⟩
abbrev main_v9_scv : Ref sig .scVector := ⟨.hbm, 12, rfl⟩
abbrev main_v10_scv : Ref sig .scVector := ⟨.hbm, 13, rfl⟩
abbrev main_v11_scv : Ref sig .scVector := ⟨.hbm, 14, rfl⟩
abbrev main_v12_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c1024_i32 : BitVec 32 := 1024#32
  let v10 : BitVec 32 := Scalar.addi v2 c1024_i32
  ![v10.toNat]
@[reducible] def k0_t1_loop : Scf.Loop 32 :=
  let c0_i32_12 : BitVec 32 := 0#32
  let c32_i32 : BitVec 32 := 32#32
  let v19 : BitVec 32 := Scalar.addi c0_i32_12 c32_i32
  let c1_i32_13 : BitVec 32 := 1#32
  ⟨c0_i32_12, v19, c1_i32_13⟩
def k0_cond1 (k0_t1 : Fin k0_t1_loop.trips) : BitVec 1 :=
  let c0_i32_12 : BitVec 32 := 0#32
  let c1_i32_13 : BitVec 32 := 1#32
  let arg9 : BitVec 32 := Scf.iv c0_i32_12 c1_i32_13 k0_t1
  let c2_i32_15 : BitVec 32 := 2#32
  let v20 : BitVec 32 := Scalar.muli arg9 c2_i32_15
  let c0_i32_16 : BitVec 32 := 0#32
  let v21 : BitVec 32 := Scalar.addi v20 c0_i32_16
  let c2_i32_25 : BitVec 32 := 2#32
  let v29 : BitVec 32 := Scalar.addi v21 c2_i32_25
  let c64_i32 : BitVec 32 := 64#32
  let v30 : BitVec 1 := Scalar.cmpi .slt v29 c64_i32
  let v31 : BitVec 32 := Scalar.extui v30
  let c0_i32_26 : BitVec 32 := 0#32
  let v32 : BitVec 1 := Scalar.cmpi .ne v31 c0_i32_26
  v32

def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_12 : BitVec 32 := 0#32
  let c1_i32_13 : BitVec 32 := 1#32
  let arg9 : BitVec 32 := Scf.iv c0_i32_12 c1_i32_13 k0_t1
  let c2_i32_15 : BitVec 32 := 2#32
  let v20 : BitVec 32 := Scalar.muli arg9 c2_i32_15
  let c0_i32_16 : BitVec 32 := 0#32
  let v21 : BitVec 32 := Scalar.addi v20 c0_i32_16
  let c2_i32_50 : BitVec 32 := 2#32
  let v58 : BitVec 32 := Scalar.addi v21 c2_i32_50
  let c1024_i32_51 : BitVec 32 := 1024#32
  let v59 : BitVec 32 := Scalar.muli v58 c1024_i32_51
  let v60 : BitVec 32 := Scalar.addi v2 v59
  ![v60.toNat]
def k0_cond2 (k0_t1 : Fin k0_t1_loop.trips) : BitVec 1 :=
  let c0_i32_12 : BitVec 32 := 0#32
  let c1_i32_13 : BitVec 32 := 1#32
  let arg9 : BitVec 32 := Scf.iv c0_i32_12 c1_i32_13 k0_t1
  let c2_i32_15 : BitVec 32 := 2#32
  let v20 : BitVec 32 := Scalar.muli arg9 c2_i32_15
  let c0_i32_16 : BitVec 32 := 0#32
  let v21 : BitVec 32 := Scalar.addi v20 c0_i32_16
  let c1_i32_27 : BitVec 32 := 1#32
  let v33 : BitVec 32 := Scalar.addi v21 c1_i32_27
  let c64_i32_28 : BitVec 32 := 64#32
  let v34 : BitVec 1 := Scalar.cmpi .slt v33 c64_i32_28
  let v35 : BitVec 32 := Scalar.extui v34
  let c0_i32_29 : BitVec 32 := 0#32
  let v36 : BitVec 1 := Scalar.cmpi .ne v35 c0_i32_29
  v36

def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  ![v2.toNat]
def k0_off5 (i : grid0.Coords) (k0_t1 : Fin k0_t1_loop.trips) (c0_i32_16 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_12 : BitVec 32 := 0#32
  let c1_i32_13 : BitVec 32 := 1#32
  let arg9 : BitVec 32 := Scf.iv c0_i32_12 c1_i32_13 k0_t1
  let c2_i32_15 : BitVec 32 := 2#32
  let v20 : BitVec 32 := Scalar.muli arg9 c2_i32_15
  let v21 : BitVec 32 := Scalar.addi v20 c0_i32_16
  let c1024_i32_30 : BitVec 32 := 1024#32
  let v37 : BitVec 32 := Scalar.muli v21 c1024_i32_30
  let v38 : BitVec 32 := Scalar.addi v2 v37
  let c0_i32_52_r1 : BitVec 32 := 0#32
  ![v38.toNat, 0]
def k0_cond3 (k0_t1 : Fin k0_t1_loop.trips) : BitVec 1 :=
  let c0_i32_12 : BitVec 32 := 0#32
  let c1_i32_13 : BitVec 32 := 1#32
  let arg9 : BitVec 32 := Scf.iv c0_i32_12 c1_i32_13 k0_t1
  let c2_i32_32 : BitVec 32 := 2#32
  let v39 : BitVec 32 := Scalar.muli arg9 c2_i32_32
  let c1_i32_33 : BitVec 32 := 1#32
  let v40 : BitVec 32 := Scalar.addi v39 c1_i32_33
  let c2_i32_42 : BitVec 32 := 2#32
  let v48 : BitVec 32 := Scalar.addi v40 c2_i32_42
  let c64_i32_43 : BitVec 32 := 64#32
  let v49 : BitVec 1 := Scalar.cmpi .slt v48 c64_i32_43
  let v50 : BitVec 32 := Scalar.extui v49
  let c0_i32_44 : BitVec 32 := 0#32
  let v51 : BitVec 1 := Scalar.cmpi .ne v50 c0_i32_44
  v51

def k0_off6 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_12 : BitVec 32 := 0#32
  let c1_i32_13 : BitVec 32 := 1#32
  let arg9 : BitVec 32 := Scf.iv c0_i32_12 c1_i32_13 k0_t1
  let c2_i32_32 : BitVec 32 := 2#32
  let v39 : BitVec 32 := Scalar.muli arg9 c2_i32_32
  let c1_i32_33 : BitVec 32 := 1#32
  let v40 : BitVec 32 := Scalar.addi v39 c1_i32_33
  let c2_i32_50 : BitVec 32 := 2#32
  let v58 : BitVec 32 := Scalar.addi v40 c2_i32_50
  let c1024_i32_51 : BitVec 32 := 1024#32
  let v59 : BitVec 32 := Scalar.muli v58 c1024_i32_51
  let v60 : BitVec 32 := Scalar.addi v2 v59
  ![v60.toNat]
def k0_cond4 (k0_t1 : Fin k0_t1_loop.trips) : BitVec 1 :=
  let c0_i32_12 : BitVec 32 := 0#32
  let c1_i32_13 : BitVec 32 := 1#32
  let arg9 : BitVec 32 := Scf.iv c0_i32_12 c1_i32_13 k0_t1
  let c2_i32_32 : BitVec 32 := 2#32
  let v39 : BitVec 32 := Scalar.muli arg9 c2_i32_32
  let c1_i32_33 : BitVec 32 := 1#32
  let v40 : BitVec 32 := Scalar.addi v39 c1_i32_33
  let c1_i32_45 : BitVec 32 := 1#32
  let v52 : BitVec 32 := Scalar.addi v40 c1_i32_45
  let c64_i32_46 : BitVec 32 := 64#32
  let v53 : BitVec 1 := Scalar.cmpi .slt v52 c64_i32_46
  let v54 : BitVec 32 := Scalar.extui v53
  let c0_i32_47 : BitVec 32 := 0#32
  let v55 : BitVec 1 := Scalar.cmpi .ne v54 c0_i32_47
  v55

def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  ![v2.toNat]
abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v3 : BitVec 32 := Scalar.muli v1 c8192_i32
  let c0_i32_3 : BitVec 32 := 0#32
  ![v3.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v3 : BitVec 32 := Scalar.muli v1 c8192_i32
  let c64_i32 : BitVec 32 := 64#32
  let v12 : BitVec 32 := Scalar.addi v3 c64_i32
  let c0_i32_10 : BitVec 32 := 0#32
  ![v12.toNat, 0]
@[reducible] def k1_t1_loop : Scf.Loop 32 :=
  let c0_i32_15 : BitVec 32 := 0#32
  let c64_i32_16 : BitVec 32 := 64#32
  let v21 : BitVec 32 := Scalar.addi c0_i32_15 c64_i32_16
  let c1_i32_17 : BitVec 32 := 1#32
  ⟨c0_i32_15, v21, c1_i32_17⟩
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v3 : BitVec 32 := Scalar.muli v1 c8192_i32
  let c0_i32_41 : BitVec 32 := 0#32
  ![v3.toNat, 0]
def k1_cond1 (k1_t1 : Fin k1_t1_loop.trips) : BitVec 1 :=
  let c0_i32_15 : BitVec 32 := 0#32
  let c1_i32_17 : BitVec 32 := 1#32
  let arg8 : BitVec 32 := Scf.iv c0_i32_15 c1_i32_17 k1_t1
  let c2_i32_35 : BitVec 32 := 2#32
  let v38 : BitVec 32 := Scalar.muli arg8 c2_i32_35
  let c0_i32_36 : BitVec 32 := 0#32
  let v39 : BitVec 32 := Scalar.addi v38 c0_i32_36
  let c2_i32_45 : BitVec 32 := 2#32
  let v48 : BitVec 1 := Scalar.cmpi .sge v39 c2_i32_45
  let v49 : BitVec 32 := Scalar.extui v48
  let c0_i32_46 : BitVec 32 := 0#32
  let v50 : BitVec 1 := Scalar.cmpi .ne v49 c0_i32_46
  v50

def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let c0_i32_95 : BitVec 32 := 0#32
  ![v2.toNat, 0]
@[reducible] def k1_t2_loop : Scf.Loop 32 :=
  let c0_i32_48 : BitVec 32 := 0#32
  let c64_i32_49 : BitVec 32 := 64#32
  let v51 : BitVec 32 := Scalar.addi c0_i32_48 c64_i32_49
  let c1_i32_50 : BitVec 32 := 1#32
  ⟨c0_i32_48, v51, c1_i32_50⟩
def k1_off5 (k1_t2 : Fin k1_t2_loop.trips) : Fin 3 → Nat :=
  let c0_i32_91 : BitVec 32 := 0#32
  let v94 : Index := Scalar.indexCast c0_i32_91
  let c0_i32_48 : BitVec 32 := 0#32
  let c1_i32_50 : BitVec 32 := 1#32
  let arg9 : BitVec 32 := Scf.iv c0_i32_48 c1_i32_50 k1_t2
  let v95 : Index := Scalar.indexCast arg9
  let c0 : Index := 0#32
  ![0, v95.toNat, 0]
def k1_off6 (k1_t2 : Fin k1_t2_loop.trips) (c0_i32_92 : BitVec 32) : Fin 3 → Nat :=
  let c0_i32_93 : BitVec 32 := 0#32
  let v100 : Index := Scalar.indexCast c0_i32_93
  let c0_i32_48 : BitVec 32 := 0#32
  let c1_i32_50 : BitVec 32 := 1#32
  let arg9 : BitVec 32 := Scf.iv c0_i32_48 c1_i32_50 k1_t2
  let c4_i32 : BitVec 32 := 4#32
  let v98 : BitVec 32 := Scalar.muli arg9 c4_i32
  let v99 : BitVec 32 := Scalar.addi v98 c0_i32_92
  let v101 : Index := Scalar.indexCast v99
  let c0_94 : Index := 0#32
  ![0, v101.toNat, 0]
def k1_off7 (k1_t2 : Fin k1_t2_loop.trips) : Fin 3 → Nat :=
  let c0_i32_95 : BitVec 32 := 0#32
  let v105 : Index := Scalar.indexCast c0_i32_95
  let c0_i32_48 : BitVec 32 := 0#32
  let c1_i32_50 : BitVec 32 := 1#32
  let arg9 : BitVec 32 := Scf.iv c0_i32_48 c1_i32_50 k1_t2
  let v106 : Index := Scalar.indexCast arg9
  let c16 : Index := 16#32
  ![0, v106.toNat, 16]
def k1_off8 (k1_t2 : Fin k1_t2_loop.trips) (c0_i32_97 : BitVec 32) : Fin 3 → Nat :=
  let c0_i32_98 : BitVec 32 := 0#32
  let v111 : Index := Scalar.indexCast c0_i32_98
  let c0_i32_48 : BitVec 32 := 0#32
  let c1_i32_50 : BitVec 32 := 1#32
  let arg9 : BitVec 32 := Scf.iv c0_i32_48 c1_i32_50 k1_t2
  let c4_i32_96 : BitVec 32 := 4#32
  let v109 : BitVec 32 := Scalar.muli arg9 c4_i32_96
  let v110 : BitVec 32 := Scalar.addi v109 c0_i32_97
  let v112 : Index := Scalar.indexCast v110
  let c16_99 : Index := 16#32
  ![0, v112.toNat, 16]
def k1_off9 (k1_t2 : Fin k1_t2_loop.trips) : Fin 3 → Nat :=
  let c0_i32_100 : BitVec 32 := 0#32
  let v116 : Index := Scalar.indexCast c0_i32_100
  let c0_i32_48 : BitVec 32 := 0#32
  let c1_i32_50 : BitVec 32 := 1#32
  let arg9 : BitVec 32 := Scf.iv c0_i32_48 c1_i32_50 k1_t2
  let v117 : Index := Scalar.indexCast arg9
  let c32 : Index := 32#32
  ![0, v117.toNat, 32]
def k1_off10 (k1_t2 : Fin k1_t2_loop.trips) : Fin 3 → Nat :=
  let c0_i32_105 : BitVec 32 := 0#32
  let v127 : Index := Scalar.indexCast c0_i32_105
  let c0_i32_48 : BitVec 32 := 0#32
  let c1_i32_50 : BitVec 32 := 1#32
  let arg9 : BitVec 32 := Scf.iv c0_i32_48 c1_i32_50 k1_t2
  let v128 : Index := Scalar.indexCast arg9
  let c48 : Index := 48#32
  ![0, v128.toNat, 48]
def k1_off11 (k1_t2 : Fin k1_t2_loop.trips) : Fin 3 → Nat :=
  let c0_i32_110 : BitVec 32 := 0#32
  let v138 : Index := Scalar.indexCast c0_i32_110
  let c0_i32_48 : BitVec 32 := 0#32
  let c1_i32_50 : BitVec 32 := 1#32
  let arg9 : BitVec 32 := Scf.iv c0_i32_48 c1_i32_50 k1_t2
  let v139 : Index := Scalar.indexCast arg9
  let c64 : Index := 64#32
  ![0, v139.toNat, 64]
def k1_off12 (k1_t2 : Fin k1_t2_loop.trips) : Fin 3 → Nat :=
  let c0_i32_115 : BitVec 32 := 0#32
  let v149 : Index := Scalar.indexCast c0_i32_115
  let c0_i32_48 : BitVec 32 := 0#32
  let c1_i32_50 : BitVec 32 := 1#32
  let arg9 : BitVec 32 := Scf.iv c0_i32_48 c1_i32_50 k1_t2
  let v150 : Index := Scalar.indexCast arg9
  let c80 : Index := 80#32
  ![0, v150.toNat, 80]
def k1_off13 (k1_t2 : Fin k1_t2_loop.trips) : Fin 3 → Nat :=
  let c0_i32_120 : BitVec 32 := 0#32
  let v160 : Index := Scalar.indexCast c0_i32_120
  let c0_i32_48 : BitVec 32 := 0#32
  let c1_i32_50 : BitVec 32 := 1#32
  let arg9 : BitVec 32 := Scf.iv c0_i32_48 c1_i32_50 k1_t2
  let v161 : Index := Scalar.indexCast arg9
  let c96 : Index := 96#32
  ![0, v161.toNat, 96]
def k1_off14 (k1_t2 : Fin k1_t2_loop.trips) : Fin 3 → Nat :=
  let c0_i32_124 : BitVec 32 := 0#32
  let v171 : Index := Scalar.indexCast c0_i32_124
  let c0_i32_48 : BitVec 32 := 0#32
  let c1_i32_50 : BitVec 32 := 1#32
  let arg9 : BitVec 32 := Scf.iv c0_i32_48 c1_i32_50 k1_t2
  let v172 : Index := Scalar.indexCast arg9
  let c112 : Index := 112#32
  ![0, v172.toNat, 112]
def k1_off15 (i : grid1.Coords) (k1_t1 : Fin k1_t1_loop.trips) (c0_i32_36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let c0_i32_15 : BitVec 32 := 0#32
  let c1_i32_17 : BitVec 32 := 1#32
  let arg8 : BitVec 32 := Scf.iv c0_i32_15 c1_i32_17 k1_t1
  let c2_i32_35 : BitVec 32 := 2#32
  let v38 : BitVec 32 := Scalar.muli arg8 c2_i32_35
  let v39 : BitVec 32 := Scalar.addi v38 c0_i32_36
  let c256_i32 : BitVec 32 := 256#32
  let v52 : BitVec 32 := Scalar.muli v39 c256_i32
  let v53 : BitVec 32 := Scalar.addi v2 v52
  let c0_i32_56 : BitVec 32 := 0#32
  ![v53.toNat, 0]
def k1_cond2 (k1_t1 : Fin k1_t1_loop.trips) : BitVec 1 :=
  let c0_i32_15 : BitVec 32 := 0#32
  let c1_i32_17 : BitVec 32 := 1#32
  let arg8 : BitVec 32 := Scf.iv c0_i32_15 c1_i32_17 k1_t1
  let c2_i32_35 : BitVec 32 := 2#32
  let v38 : BitVec 32 := Scalar.muli arg8 c2_i32_35
  let c0_i32_36 : BitVec 32 := 0#32
  let v39 : BitVec 32 := Scalar.addi v38 c0_i32_36
  let c2_i32_60 : BitVec 32 := 2#32
  let v62 : BitVec 32 := Scalar.addi v39 c2_i32_60
  let c128_i32 : BitVec 32 := 128#32
  let v63 : BitVec 1 := Scalar.cmpi .slt v62 c128_i32
  let v64 : BitVec 32 := Scalar.extui v63
  let c0_i32_61 : BitVec 32 := 0#32
  let v65 : BitVec 1 := Scalar.cmpi .ne v64 c0_i32_61
  v65

def k1_off16 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v3 : BitVec 32 := Scalar.muli v1 c8192_i32
  let c0_i32_15 : BitVec 32 := 0#32
  let c1_i32_17 : BitVec 32 := 1#32
  let arg8 : BitVec 32 := Scf.iv c0_i32_15 c1_i32_17 k1_t1
  let c2_i32_35 : BitVec 32 := 2#32
  let v38 : BitVec 32 := Scalar.muli arg8 c2_i32_35
  let c0_i32_36 : BitVec 32 := 0#32
  let v39 : BitVec 32 := Scalar.addi v38 c0_i32_36
  let c2_i32_91 : BitVec 32 := 2#32
  let v94 : BitVec 32 := Scalar.addi v39 c2_i32_91
  let c64_i32_92 : BitVec 32 := 64#32
  let v95 : BitVec 32 := Scalar.muli v94 c64_i32_92
  let v96 : BitVec 32 := Scalar.addi v3 v95
  let c0_i32_97 : BitVec 32 := 0#32
  ![v96.toNat, 0]
def k1_cond3 (k1_t1 : Fin k1_t1_loop.trips) : BitVec 1 :=
  let c0_i32_15 : BitVec 32 := 0#32
  let c1_i32_17 : BitVec 32 := 1#32
  let arg8 : BitVec 32 := Scf.iv c0_i32_15 c1_i32_17 k1_t1
  let c2_i32_62 : BitVec 32 := 2#32
  let v66 : BitVec 32 := Scalar.muli arg8 c2_i32_62
  let c1_i32_63 : BitVec 32 := 1#32
  let v67 : BitVec 32 := Scalar.addi v66 c1_i32_63
  let c2_i32_72 : BitVec 32 := 2#32
  let v76 : BitVec 1 := Scalar.cmpi .sge v67 c2_i32_72
  let v77 : BitVec 32 := Scalar.extui v76
  let c0_i32_73 : BitVec 32 := 0#32
  let v78 : BitVec 1 := Scalar.cmpi .ne v77 c0_i32_73
  v78

def k1_off17 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let c0_i32_95 : BitVec 32 := 0#32
  ![v2.toNat, 0]
@[reducible] def k1_t3_loop : Scf.Loop 32 :=
  let c0_i32_75 : BitVec 32 := 0#32
  let c64_i32_76 : BitVec 32 := 64#32
  let v79 : BitVec 32 := Scalar.addi c0_i32_75 c64_i32_76
  let c1_i32_77 : BitVec 32 := 1#32
  ⟨c0_i32_75, v79, c1_i32_77⟩
def k1_off18 (k1_t3 : Fin k1_t3_loop.trips) : Fin 3 → Nat :=
  let c1_i32_91 : BitVec 32 := 1#32
  let v94 : Index := Scalar.indexCast c1_i32_91
  let c0_i32_75 : BitVec 32 := 0#32
  let c1_i32_77 : BitVec 32 := 1#32
  let arg9 : BitVec 32 := Scf.iv c0_i32_75 c1_i32_77 k1_t3
  let v95 : Index := Scalar.indexCast arg9
  let c0 : Index := 0#32
  ![1, v95.toNat, 0]
def k1_off19 (k1_t3 : Fin k1_t3_loop.trips) (c0_i32_92 : BitVec 32) : Fin 3 → Nat :=
  let c1_i32_93 : BitVec 32 := 1#32
  let v100 : Index := Scalar.indexCast c1_i32_93
  let c0_i32_75 : BitVec 32 := 0#32
  let c1_i32_77 : BitVec 32 := 1#32
  let arg9 : BitVec 32 := Scf.iv c0_i32_75 c1_i32_77 k1_t3
  let c4_i32 : BitVec 32 := 4#32
  let v98 : BitVec 32 := Scalar.muli arg9 c4_i32
  let v99 : BitVec 32 := Scalar.addi v98 c0_i32_92
  let v101 : Index := Scalar.indexCast v99
  let c0_94 : Index := 0#32
  ![1, v101.toNat, 0]
def k1_off20 (k1_t3 : Fin k1_t3_loop.trips) : Fin 3 → Nat :=
  let c1_i32_95 : BitVec 32 := 1#32
  let v105 : Index := Scalar.indexCast c1_i32_95
  let c0_i32_75 : BitVec 32 := 0#32
  let c1_i32_77 : BitVec 32 := 1#32
  let arg9 : BitVec 32 := Scf.iv c0_i32_75 c1_i32_77 k1_t3
  let v106 : Index := Scalar.indexCast arg9
  let c16 : Index := 16#32
  ![1, v106.toNat, 16]
def k1_off21 (k1_t3 : Fin k1_t3_loop.trips) (c0_i32_97 : BitVec 32) : Fin 3 → Nat :=
  let c1_i32_98 : BitVec 32 := 1#32
  let v111 : Index := Scalar.indexCast c1_i32_98
  let c0_i32_75 : BitVec 32 := 0#32
  let c1_i32_77 : BitVec 32 := 1#32
  let arg9 : BitVec 32 := Scf.iv c0_i32_75 c1_i32_77 k1_t3
  let c4_i32_96 : BitVec 32 := 4#32
  let v109 : BitVec 32 := Scalar.muli arg9 c4_i32_96
  let v110 : BitVec 32 := Scalar.addi v109 c0_i32_97
  let v112 : Index := Scalar.indexCast v110
  let c16_99 : Index := 16#32
  ![1, v112.toNat, 16]
def k1_off22 (k1_t3 : Fin k1_t3_loop.trips) : Fin 3 → Nat :=
  let c1_i32_100 : BitVec 32 := 1#32
  let v116 : Index := Scalar.indexCast c1_i32_100
  let c0_i32_75 : BitVec 32 := 0#32
  let c1_i32_77 : BitVec 32 := 1#32
  let arg9 : BitVec 32 := Scf.iv c0_i32_75 c1_i32_77 k1_t3
  let v117 : Index := Scalar.indexCast arg9
  let c32 : Index := 32#32
  ![1, v117.toNat, 32]
def k1_off23 (k1_t3 : Fin k1_t3_loop.trips) : Fin 3 → Nat :=
  let c1_i32_105 : BitVec 32 := 1#32
  let v127 : Index := Scalar.indexCast c1_i32_105
  let c0_i32_75 : BitVec 32 := 0#32
  let c1_i32_77 : BitVec 32 := 1#32
  let arg9 : BitVec 32 := Scf.iv c0_i32_75 c1_i32_77 k1_t3
  let v128 : Index := Scalar.indexCast arg9
  let c48 : Index := 48#32
  ![1, v128.toNat, 48]
def k1_off24 (k1_t3 : Fin k1_t3_loop.trips) : Fin 3 → Nat :=
  let c1_i32_110 : BitVec 32 := 1#32
  let v138 : Index := Scalar.indexCast c1_i32_110
  let c0_i32_75 : BitVec 32 := 0#32
  let c1_i32_77 : BitVec 32 := 1#32
  let arg9 : BitVec 32 := Scf.iv c0_i32_75 c1_i32_77 k1_t3
  let v139 : Index := Scalar.indexCast arg9
  let c64 : Index := 64#32
  ![1, v139.toNat, 64]
def k1_off25 (k1_t3 : Fin k1_t3_loop.trips) : Fin 3 → Nat :=
  let c1_i32_115 : BitVec 32 := 1#32
  let v149 : Index := Scalar.indexCast c1_i32_115
  let c0_i32_75 : BitVec 32 := 0#32
  let c1_i32_77 : BitVec 32 := 1#32
  let arg9 : BitVec 32 := Scf.iv c0_i32_75 c1_i32_77 k1_t3
  let v150 : Index := Scalar.indexCast arg9
  let c80 : Index := 80#32
  ![1, v150.toNat, 80]
def k1_off26 (k1_t3 : Fin k1_t3_loop.trips) : Fin 3 → Nat :=
  let c1_i32_120 : BitVec 32 := 1#32
  let v160 : Index := Scalar.indexCast c1_i32_120
  let c0_i32_75 : BitVec 32 := 0#32
  let c1_i32_77 : BitVec 32 := 1#32
  let arg9 : BitVec 32 := Scf.iv c0_i32_75 c1_i32_77 k1_t3
  let v161 : Index := Scalar.indexCast arg9
  let c96 : Index := 96#32
  ![1, v161.toNat, 96]
def k1_off27 (k1_t3 : Fin k1_t3_loop.trips) : Fin 3 → Nat :=
  let c1_i32_124 : BitVec 32 := 1#32
  let v171 : Index := Scalar.indexCast c1_i32_124
  let c0_i32_75 : BitVec 32 := 0#32
  let c1_i32_77 : BitVec 32 := 1#32
  let arg9 : BitVec 32 := Scf.iv c0_i32_75 c1_i32_77 k1_t3
  let v172 : Index := Scalar.indexCast arg9
  let c112 : Index := 112#32
  ![1, v172.toNat, 112]
def k1_cond4 (k1_t1 : Fin k1_t1_loop.trips) : BitVec 1 :=
  let c0_i32_15 : BitVec 32 := 0#32
  let c1_i32_17 : BitVec 32 := 1#32
  let arg8 : BitVec 32 := Scf.iv c0_i32_15 c1_i32_17 k1_t1
  let c2_i32_62 : BitVec 32 := 2#32
  let v66 : BitVec 32 := Scalar.muli arg8 c2_i32_62
  let c1_i32_63 : BitVec 32 := 1#32
  let v67 : BitVec 32 := Scalar.addi v66 c1_i32_63
  let c2_i32_88 : BitVec 32 := 2#32
  let v90 : BitVec 32 := Scalar.addi v67 c2_i32_88
  let c128_i32_89 : BitVec 32 := 128#32
  let v91 : BitVec 1 := Scalar.cmpi .slt v90 c128_i32_89
  let v92 : BitVec 32 := Scalar.extui v91
  let c0_i32_90 : BitVec 32 := 0#32
  let v93 : BitVec 1 := Scalar.cmpi .ne v92 c0_i32_90
  v93

def k1_off28 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v3 : BitVec 32 := Scalar.muli v1 c8192_i32
  let c0_i32_15 : BitVec 32 := 0#32
  let c1_i32_17 : BitVec 32 := 1#32
  let arg8 : BitVec 32 := Scf.iv c0_i32_15 c1_i32_17 k1_t1
  let c2_i32_62 : BitVec 32 := 2#32
  let v66 : BitVec 32 := Scalar.muli arg8 c2_i32_62
  let c1_i32_63 : BitVec 32 := 1#32
  let v67 : BitVec 32 := Scalar.addi v66 c1_i32_63
  let c2_i32_91 : BitVec 32 := 2#32
  let v94 : BitVec 32 := Scalar.addi v67 c2_i32_91
  let c64_i32_92 : BitVec 32 := 64#32
  let v95 : BitVec 32 := Scalar.muli v94 c64_i32_92
  let v96 : BitVec 32 := Scalar.addi v3 v95
  let c0_i32_97 : BitVec 32 := 0#32
  ![v96.toNat, 0]
def k1_off29 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let c0_i32_23 : BitVec 32 := 0#32
  ![v2.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S786432x32 : Shape := ⟨2, ![786432, 32]⟩
abbrev S1048576 : Shape := ⟨1, ![1048576]⟩
abbrev S_ : Shape := ⟨0, ![]⟩
abbrev S1048576x1 : Shape := ⟨2, ![1048576, 1]⟩
abbrev S1 : Shape := ⟨1, ![1]⟩
abbrev S1x1 : Shape := ⟨2, ![1, 1]⟩
abbrev S1048576x32 : Shape := ⟨2, ![1048576, 32]⟩

abbrev nBuf : Space → Nat
  | .hbm => 25
  | .vmem => 0
  | .smem => 0
  | _ => 0

abbrev bufTy : (tb : Table) → Fin (tcTables nBuf tb) → BufTy
  | .hbm, ⟨0, _⟩ => ⟨S786432x32, .f32⟩
  | .hbm, ⟨1, _⟩ => ⟨S1048576, .i32⟩
  | .hbm, ⟨2, _⟩ => ⟨S_, .i32⟩
  | .hbm, ⟨3, _⟩ => ⟨S1048576, .i32⟩
  | .hbm, ⟨4, _⟩ => ⟨S1048576, .i1⟩
  | .hbm, ⟨5, _⟩ => ⟨S_, .i32⟩
  | .hbm, ⟨6, _⟩ => ⟨S1048576, .i32⟩
  | .hbm, ⟨7, _⟩ => ⟨S1048576, .i32⟩
  | .hbm, ⟨8, _⟩ => ⟨S1048576, .i32⟩
  | .hbm, ⟨9, _⟩ => ⟨S1048576x1, .i32⟩
  | .hbm, ⟨10, _⟩ => ⟨S1, .i32⟩
  | .hbm, ⟨11, _⟩ => ⟨S_, .i32⟩
  | .hbm, ⟨12, _⟩ => ⟨S1048576x1, .i32⟩
  | .hbm, ⟨13, _⟩ => ⟨S1048576x1, .i1⟩
  | .hbm, ⟨14, _⟩ => ⟨S1x1, .i32⟩
  | .hbm, ⟨15, _⟩ => ⟨S1048576x1, .i32⟩
  | .hbm, ⟨16, _⟩ => ⟨S1048576x1, .i1⟩
  | .hbm, ⟨17, _⟩ => ⟨S1048576x1, .i1⟩
  | .hbm, ⟨18, _⟩ => ⟨S_, .i1⟩
  | .hbm, ⟨19, _⟩ => ⟨S1048576, .i1⟩
  | .hbm, ⟨20, _⟩ => ⟨S1048576x32, .f32⟩
  | .hbm, ⟨21, _⟩ => ⟨S1048576x32, .i1⟩
  | .hbm, ⟨22, _⟩ => ⟨S_, .f32⟩
  | .hbm, ⟨23, _⟩ => ⟨S1048576x32, .f32⟩
  | .hbm, ⟨24, _⟩ => ⟨S1048576x32, .f32⟩
  | _, _ => ⟨S786432x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Rules.lean ====
/-
  What the proof of either SparseCore call is written over: the launch's names, what a memref HOLDS (`Has`, `Free`), and
  one rule per transfer operation of a vector subcore — the issue of a local copy, the issue of an indirect gather, a
  wait — each in the form "from these resources, the continuation gets those".
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.ValueIdx
public import Idealize.ShloMosaic.Lib.ValueLayout
public import Idealize.ShloMosaic.Lib.ViewIndex
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's names -/

/-- The labels of the launch's programs. -/
abbrev ΛP : Labels := Pipeline.Sig Λ₀ (Fin 0) fun p => (pcfgs (F := F) p).Adm
/-- The launch of the two SparseCore calls. -/
abbrev K : SparseCore.Cfg τ sig (ΛP (F := F)) 2 := sc (F := F)
/-- What each label of the launch runs. -/
abbrev D [FloatOps F] : Defs nD τ sig (Elt F) (ΛP (F := F)) := Pipeline.defs pcfgs defs₀
/-- No program of the kernels recurs, so none needs a measure. -/
abbrev 𝒱₀ : Variants := Variants.none
/-- The same, over the launch's labels. -/
abbrev 𝒱 : Variants := 𝒱₀.lift
/-- The measure a task starts at. -/
abbrev v₀ : 𝒱.V := Sum.inl none

/-- The ghost state of the handshakes' rounds. -/
abbrev UH : Type := URounds (GSem nD τ sig) ℕ
/-- All the ghost state: the handshakes' rounds, and the counters of the copies in flight. -/
abbrev UU : Type := UH × Counters

local notation "𝕄" => MT nD τ sig (HIx 2) (Elt F) ℕ UU ℕ

/-- Where the handshakes' rounds lie in the ghost state. -/
abbrev EH : Emb UH (MT nD τ sig (HIx 2) (Elt F) ℕ UU ℕ) := embL

/-! ## What a memref holds -/

section Rules

variable (d : Dev nD) (c : Fin τ.nSC) (i : Fin τ.nSub)

/-- The elements of memref `m` on this subcore, held outright, read as `w`. -/
def Has {sp : Space} {s : Shape} {e : EltTy} (m : Memref sig .scVector sp s e) (w : s.Idx → Elt F e) : sProp 𝕄 :=
  iprop(∃ f : Buf (Elt F) (m.view.loc (V d c i)), ⌜m.view.read (Elt F) f = w⌝ ∗ (m.view.loc (V d c i) ↦[m.view.set]{fullShare} f))

/-- The elements of memref `m` on this subcore, held outright, at some contents. -/
def Free {sp : Space} {s : Shape} {e : EltTy} (m : Memref sig .scVector sp s e) : sProp 𝕄 :=
  iprop(∃ f : Buf (Elt F) (m.view.loc (V d c i)), (m.view.loc (V d c i) ↦[m.view.set]{fullShare} f))

/-- A copy in flight on this subcore's semaphore `sem`, delivering `R` at its wait. -/
abbrev Fl (sem : DmaSem sig) (N : ℕ) (R : sProp 𝕄) : sProp 𝕄 :=
  Transfers.Flight (countersEmb (nD := nD) (τ := τ) (sig := sig) (Ix := HIx 2) (Val := Elt F) (Name := ℕ) (U := UU) (Lvl := ℕ))
    (V d c i) (.dma sem) (default : HIx 2) N R

/-- This subcore's semaphore `sem` at zero. -/
abbrev Zero (sem : DmaSem sig) : sProp 𝕄 := semVal (V d c i, SemLoc.dma sem) 0

/-- What the subcore owes, its recorded waits since `W` all at the index no handshake uses. -/
def Ow (O : CellTallies nD τ sig (HIx 2)) (W : Waits sig (HIx 2)) : sProp 𝕄 :=
  iprop(∃ W', ⌜∀ p ∈ W', p ∈ W ∨ p.2 = none⌝ ∗ owes (V d c i) O W')

/-- Elements held at known contents are held at some contents. -/
theorem has_free {sp : Space} {s : Shape} {e : EltTy} (m : Memref sig .scVector sp s e) (w : s.Idx → Elt F e) :
    (Has d c i m w : sProp 𝕄) ⊢ Free d c i m := by
  unfold Has Free
  iintro ⟨%f, -, H⟩
  iexists f; iexact H

/-- A copy in flight delivers anything its delivery yields. -/
theorem fl_mono {sem : DmaSem sig} {N : ℕ} {R R' : sProp 𝕄} (h : R ⊢ R') : (Fl d c i sem N R : sProp 𝕄) ⊢ Fl d c i sem N R' :=
  Transfers.Flight_mono _ _ h

/-- What is set aside while a copy is in flight may travel with it. -/
theorem fl_frame {sem : DmaSem sig} {N : ℕ} {R R' : sProp 𝕄} : iprop(R' ∗ Fl d c i sem N R) ⊢ (Fl d c i sem N iprop(R' ∗ R) : sProp 𝕄) := by
  unfold Fl Transfers.Flight
  iintro ⟨HR', ⟨%X, HX, %hcap, %hpeek⟩, Hcred⟩
  isplitl [HX HR']
  · iexists iprop(R' ∗ X)
    isplitl [HX HR']; · isplitl [HR'] <;> iassumption
    isplit
    · ipureintro; intro k
      refine BIBase.Entails.trans ?_ (hcap k)
      iintro ⟨⟨HR', HX⟩, Hk⟩
      isplitl [HX]; · iexact HX
      iintro ⟨Hv, HR⟩
      iapply Hk
      isplitl [Hv]; · iexact Hv
      isplitl [HR'] <;> iassumption
    · ipureintro; intro k
      refine BIBase.Entails.trans ?_ (hpeek k)
      iintro ⟨⟨HR', HX⟩, Hk⟩
      isplitl [HX]; · iexact HX
      iintro HX
      iapply Hk
      isplitl [HR'] <;> iassumption
  · iexact Hcred

variable [FloatOps F]

/-- The issue of a local copy whose source elements lie within the held elements `Se`: in flight, it delivers the
    destination reading what the source read, and the held source back. -/
theorem wp_issue {sp sp' : Space} {s : Shape} {e : EltTy} (src : Memref sig .scVector sp s e) (dst : Memref sig .scVector sp' s e)
    (sem : DmaSem sig) {hsrc : src.view.WordExact} {hdst : dst.view.WordExact} {hsem : DmaTarget.Typed (nD := nD) sp (.dma sem) (DmaTarget.here (p := Proc.scVector c i) dst)}
    {q : PosShare TreeShare} {fs : Buf (Elt F) (src.view.loc (V d c i))} {Se : Finset (Idx (src.view.loc (V d c i)))}
    (hS : src.view.set ⊆ Se) (hs : 0 < s.numel) {Ψ : PUnit → sProp 𝕄} :
    iprop((src.view.loc (V d c i) ↦[Se]{q} fs) ∗ Free d c i dst ∗ Zero d c i sem)
      ⊢ iprop((Fl d c i sem dst.view.dmaCredit iprop(Has d c i dst (src.view.read (Elt F) fs) ∗ (src.view.loc (V d c i) ↦[Se]{q} fs)) -∗ Ψ ⟨⟩)
          -∗ wp frame (wpE (defs₀ (F := F)) 𝒱₀ (V d c i) none) Set.univ
              (Prog.lift (.enqueueDma src (DmaTarget.here (p := Proc.scVector c i) dst) (.dma sem) hsrc hdst hsem)) Ψ) := by
  unfold Free
  iintro ⟨Hs, ⟨%fd, Hd⟩, Hv⟩ Hk
  ihave Hsp := (pointsTo_split_subset (q := q) (f := fs) hS).1 $$ Hs
  icases Hsp with ⟨Hs, Hr⟩
  iapply (Transfers.wp_dmaLocal countersEmb 𝒱₀ (V d c i) none (via := ReadAs.same) (k := fun x => Prog.ret x) (default : HIx 2) dst.view.dmaCredit rfl
    (View.dmaCredit_pos _ hs) (Finset.Subset.refl _)) $$ [Hs Hd Hv]
  · isplitl [Hs]; · iexact Hs
    isplitl [Hd]; · iexact Hd
    iexact Hv
  iintro Hfl
  rw [wp_ret]
  imodintro
  iapply Hk
  ihave Hfl := (fl_frame (F := F) d c i) $$ [Hr Hfl]
  · isplitl [Hr]; · iexact Hr
    iexact Hfl
  iapply (fl_mono (F := F) d c i ?_) $$ Hfl
  unfold Has
  iintro ⟨Hr, Hd, Hs⟩
  isplitl [Hd]
  · iexists _
    isplitr; swap; · iexact Hd
    ipureintro; rw [View.read_write_univ]
  · iapply (pointsTo_split_subset (q := q) (f := fs) hS).2
    isplitl [Hs] <;> iassumption

/-- The issue of a local copy out of elements held outright. -/
theorem wp_issueHas {sp sp' : Space} {s : Shape} {e : EltTy} (src : Memref sig .scVector sp s e) (dst : Memref sig .scVector sp' s e)
    (sem : DmaSem sig) {hsrc : src.view.WordExact} {hdst : dst.view.WordExact} {hsem : DmaTarget.Typed (nD := nD) sp (.dma sem) (DmaTarget.here (p := Proc.scVector c i) dst)}
    (w : s.Idx → Elt F e) (hs : 0 < s.numel) {Ψ : PUnit → sProp 𝕄} :
    iprop(Has d c i src w ∗ Free d c i dst ∗ Zero d c i sem)
      ⊢ iprop((Fl d c i sem dst.view.dmaCredit iprop(Has d c i dst w ∗ Free d c i src) -∗ Ψ ⟨⟩)
          -∗ wp frame (wpE (defs₀ (F := F)) 𝒱₀ (V d c i) none) Set.univ
              (Prog.lift (.enqueueDma src (DmaTarget.here (p := Proc.scVector c i) dst) (.dma sem) hsrc hdst hsem)) Ψ) := by
  iintro ⟨Hs, Hd, Hv⟩ Hk
  ihave Hs' := (Entails.of_eq (show (Has d c i src w : sProp 𝕄) = _ from by unfold Has; rfl)) $$ Hs
  icases Hs' with ⟨%fs, %hfs, Hs⟩
  subst hfs
  iapply (wp_issue d c i src dst sem (Finset.Subset.refl _) hs) $$ [Hs Hd Hv]
  · isplitl [Hs]; · iexact Hs
    isplitl [Hd]; · iexact Hd
    iexact Hv
  iintro Hfl
  iapply Hk
  iapply (fl_mono (F := F) d c i ?_) $$ Hfl
  unfold Free
  iintro ⟨Hd, Hs⟩
  isplitl [Hd]; · iexact Hd
  iexists _; iexact Hs

/-- A wait for the copy in flight on `sem`. -/
theorem wp_wait {sp sp' : Space} {s s' : Shape} {e e' : EltTy} (srcw : Memref sig .scVector sp' s' e') (dstw : Memref sig .scVector sp s e)
    (sem : DmaSem sig) {hsrc : srcw.view.WordExact} {hdst : dstw.view.WordExact} {N : ℕ} (hN : dstw.view.dmaCredit = N)
    {R : sProp 𝕄} {O : CellTallies nD τ sig (HIx 2)} {W : Waits sig (HIx 2)} {Ψ : PUnit → sProp 𝕄} :
    iprop(Transfers.MayWaits (V d c i) (default : HIx 2) O ∗ Fl d c i sem N R ∗ Ow d c i O W)
      ⊢ iprop((iprop(R ∗ Zero d c i sem ∗ Ow d c i O W) -∗ Ψ ⟨⟩)
          -∗ wp frame (wpE (defs₀ (F := F)) 𝒱₀ (V d c i) none) Set.univ (Prog.lift (.waitDma2 sem srcw dstw hsrc hdst)) Ψ) := by
  unfold Ow
  iintro ⟨#Hmw, Hfl, %W', %hW', HO⟩ Hk
  iapply (Transfers.wp_waitLocalO countersEmb 𝒱₀ (V d c i) none (k := fun x => Prog.ret x) (default : HIx 2) hN) $$ [Hfl HO]
  · isplitl [Hfl]; · iexact Hfl
    isplitl [HO]; · iexact HO
    iapply (Transfers.MayWaits.elim (SemLoc.dma sem)) $$ Hmw
  iintro ⟨HR, Hv, HO⟩
  rw [wp_ret]
  imodintro
  iapply Hk
  isplitl [HR]; · iexact HR
  isplitl [Hv]; · iexact Hv
  iexists _; isplitr; swap; · iexact HO
  ipureintro; intro p hp
  rcases Finset.mem_insert.mp hp with hp | hp
  · exact .inr (hp ▸ rfl)
  · exact hW' p hp

/-- The issue of an indirect gather of rows of `src`, held at a share, the row numbers read in `offs`: in flight, it
    delivers the destination reading the gathered rows, the source's share and the list's memref back. -/
theorem wp_gather {sp : Space} {s₀ s si : Shape} {e : EltTy} {a : ℕ} (src : Memref sig .scVector sp s₀ e) (dst : Memref sig .scVector .vmem s e)
    (hg : s₀.Gathers a s) (offs : Memref sig .scVector .vmem si .i32) (hn : si.numel = s.size hg.axis') (sem : DmaSem sig)
    {hp : (Proc.scVector c i : Proc τ).kind = .scVector} {hsrc : src.view.WordExact} {he : e.bits = 32} {hsp : sp = .hbm ∨ sp = .shared} {hr : s₀.StreamRows a}
    {q : PosShare TreeShare} {fs : Buf (Elt F) (src.view.loc (V d c i))} {Se : Finset (Idx (src.view.loc (V d c i)))} (hS : src.view.set ⊆ Se)
    {w : si.Idx → Elt F .i32} {N : ℕ}
    (hN : ∑ j, (dst.slice (s.rowRect hg.axis' j) (s.stride_rowRect hg.axis' j)).view.dmaCredit = N)
    (hs : 0 < s.numel) (hin : ∀ x, (w x).toNat < s₀.size hg.axis) {Ψ : PUnit → sProp 𝕄} :
    iprop((src.view.loc (V d c i) ↦[Se]{q} fs) ∗ Free d c i dst ∗ Has d c i offs w ∗ Zero d c i sem)
      ⊢ iprop((Fl d c i sem N iprop(Has d c i dst (SparseCore.gatherPayload hg (src.view.read (Elt F) fs) (SparseCore.rows w hn hin))
                ∗ (src.view.loc (V d c i) ↦[Se]{q} fs) ∗ Free d c i offs) -∗ Ψ ⟨⟩)
          -∗ wp frame (wpE (defs₀ (F := F)) 𝒱₀ (V d c i) none) Set.univ
              (SparseCore.enqueueIndirectGather hp src dst hg offs hn sem hsrc he hsp hr) Ψ) := by
  iintro ⟨Hs, Hd, Ho, Hv⟩ Hk
  ihave Hd' := (Entails.of_eq (show (Free d c i dst : sProp 𝕄) = _ from by unfold Free; rfl)) $$ Hd
  icases Hd' with ⟨%fd, Hd⟩
  ihave Ho' := (Entails.of_eq (show (Has d c i offs w : sProp 𝕄) = _ from by unfold Has; rfl)) $$ Ho
  icases Ho' with ⟨%fo, %hfo, Ho⟩
  subst hfo
  ihave Hsp := (pointsTo_split_subset (q := q) (f := fs) hS).1 $$ Hs
  icases Hsp with ⟨Hs, Hr⟩
  iapply (SparseCore.wp_indirectGatherLocal countersEmb 𝒱₀ (V d c i) none (hg := hg) (hp := hp) (hsrc := hsrc) (he := he) (hsp := hsp) (hr := hr) (k := fun x => Prog.ret x) (default : HIx 2) N hN hs hin) $$ [Hs Hd Ho Hv]
  · isplitl [Hs]; · iexact Hs
    isplitl [Hd]; · iexact Hd
    isplitl [Ho]; · iexact Ho
    iexact Hv
  iintro Hfl
  rw [wp_ret]
  imodintro
  iapply Hk
  ihave Hfl := (fl_frame (F := F) d c i) $$ [Hr Hfl]
  · isplitl [Hr]; · iexact Hr
    iexact Hfl
  iapply (fl_mono (F := F) d c i ?_) $$ Hfl
  iintro ⟨Hr, Hd, Hs, Ho⟩
  isplitl [Hd]
  · unfold Has
    iexists _
    isplitr; swap; · iexact Hd
    ipureintro; rw [View.read_write_univ]
  isplitl [Hs Hr]
  · iapply (pointsTo_split_subset (q := q) (f := fs) hS).2
    isplitl [Hs] <;> iassumption
  · unfold Free
    iexists _; iexact Ho

end Rules

end Cert.Proof.Lookup

end
-- ==== Proof.Views.lean ====
/-
  Arrays read by row number, and the views of the two SparseCore calls: which elements a slice or a slot of a scratch
  buffer names, and what reading it gives.
-/
module

public import proofs.«01_k».proof.Proof.Rules

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig (HIx 2) (Elt F) ℕ UU ℕ

/-! ## Arrays by row number -/

section Rd
variable {α : Type} {n m : ℕ} [NeZero n]

/-- Entry `k` of a list, the number taken modulo the list's length. -/
def rd1 (f : (⟨1, ![n]⟩ : Shape).Idx → α) (k : ℕ) : α := f (ix1 (Fin.ofNat n k))

/-- Lane `l` of row `k` of an array of rows, the row number taken modulo the number of rows. -/
def rd2 (f : (⟨2, ![n, m]⟩ : Shape).Idx → α) (k : ℕ) (l : Fin m) : α := f (ix2 (Fin.ofNat n k) l)

/-- An entry of a list is the one with its number. -/
theorem rd1_val (f : (⟨1, ![n]⟩ : Shape).Idx → α) (x : (⟨1, ![n]⟩ : Shape).Idx) {k : ℕ} (h : (x 0).val = k) : rd1 f k = f x := by
  subst h
  unfold rd1
  rw [eq_ix1 x]
  exact congrArg f (congrArg (ix1 (n := n)) (Fin.ext (Nat.mod_eq_of_lt (x 0).isLt)))

/-- An element of an array of rows is the one with its row and its lane. -/
theorem rd2_val (f : (⟨2, ![n, m]⟩ : Shape).Idx → α) (x : (⟨2, ![n, m]⟩ : Shape).Idx) {k : ℕ} {l : Fin m} (h : (x 0).val = k)
    (h1 : (x 1).val = l.val) : rd2 f k l = f x := by
  subst h
  unfold rd2
  rw [eq_ix2 x]
  have e0 : (Fin.ofNat n (x 0).val : Fin n) = x 0 := Fin.ext (Nat.mod_eq_of_lt (x 0).isLt)
  have e1 : l = x 1 := Fin.ext h1.symm
  rw [e1]
  exact congrArg f (congrArg (fun a => ix2 (n0 := n) (n1 := m) a (x 1)) e0)

/-- The rows from `a` up to `b` of an array. -/
def rowsIn (a b : ℕ) : Finset (⟨2, ![n, m]⟩ : Shape).Idx := Finset.univ.filter fun i => a ≤ (i 0).val ∧ (i 0).val < b

/-- An element is in a range of rows just when its row's number is. -/
theorem mem_rowsIn {a b : ℕ} {i : (⟨2, ![n, m]⟩ : Shape).Idx} : i ∈ (rowsIn a b : Finset (⟨2, ![n, m]⟩ : Shape).Idx) ↔ a ≤ (i 0).val ∧ (i 0).val < b := by
  simp [rowsIn]

/-- Ranges of rows that follow one another share no element. -/
theorem rowsIn_disjoint {a b c e : ℕ} (h : b ≤ c) : Disjoint (rowsIn a b : Finset (⟨2, ![n, m]⟩ : Shape).Idx) (rowsIn c e) :=
  Finset.disjoint_left.mpr fun i hi hj => by rw [mem_rowsIn] at hi hj; omega

/-- Two ranges of rows, the second starting where the first ends, are one range. -/
theorem rowsIn_union {a b c : ℕ} (h : a ≤ b) (h' : b ≤ c) :
    (rowsIn a b ∪ rowsIn b c : Finset (⟨2, ![n, m]⟩ : Shape).Idx) = rowsIn a c := by
  ext i; rw [Finset.mem_union, mem_rowsIn, mem_rowsIn, mem_rowsIn]; omega

/-- A range that ends where it starts is empty. -/
theorem rowsIn_empty {a b : ℕ} (h : b ≤ a) : (rowsIn a b : Finset (⟨2, ![n, m]⟩ : Shape).Idx) = ∅ := by
  ext i; rw [mem_rowsIn]; simp; omega

/-- The range of all row numbers is the whole array. -/
theorem rowsIn_all {a b : ℕ} (h : a = 0) (h' : n ≤ b) : (rowsIn a b : Finset (⟨2, ![n, m]⟩ : Shape).Idx) = Finset.univ := by
  ext i; rw [mem_rowsIn]; have := idx2_lt0 i; simp; omega

/-- A unit rectangle of whole rows is the rows from its first. -/
theorem unit_rowsIn {off size : Fin 2 → ℕ} {inb : ∀ a, off a + size a ≤ (⟨2, ![n, m]⟩ : Shape).size a} {a b : ℕ} (h0 : off 0 = a) (hb : a + size 0 = b) (h1 : off 1 = 0)
    (hs : size 1 = m) : (Rect.unit (s := ⟨2, ![n, m]⟩) off size inb).set = rowsIn a b := by
  ext i
  rw [Rect.mem_set_unit, mem_rowsIn]
  have := idx2_lt1 i
  constructor
  · intro h; have := h 0; exact ⟨by omega, by omega⟩
  · intro h; exact Fin.forall_fin_two.mpr ⟨⟨by omega, by omega⟩, ⟨by omega, by omega⟩⟩

end Rd

/-! ## Row blocks held -/

section Blocks
variable {n m : ℕ} [NeZero n] {ℓ : Loc nD τ sig} {q : PosShare TreeShare}

/-- What is held of rows `[a, c)` is what is held of `[a, b)` and of `[b, c)`. -/
theorem pts_union {I J : Finset (Idx ℓ)} (h : Disjoint I J) (f : Buf (Elt F) ℓ) :
    (ℓ ↦[I ∪ J]{q} f : sProp 𝕄) = iprop((ℓ ↦[I]{q} f) ∗ (ℓ ↦[J]{q} f)) :=
  BI.Entails.antisymm (pointsTo_union h).1 (pointsTo_union h).2

end Blocks

section Holds
variable (d : Dev nD) (c : Fin τ.nSC) (i : Fin τ.nSub)

/-- Elements held outright that read as `g` does are held at `g`. -/
theorem has_pts {sp : Space} {s : Shape} {e : EltTy} (m : Memref sig .scVector sp s e) (w : s.Idx → Elt F e)
    (g : Buf (Elt F) (m.view.loc (V d c i))) (h : m.view.read (Elt F) g = w) :
    (Has d c i m w : sProp 𝕄) ⊢ m.view.loc (V d c i) ↦[m.view.set]{fullShare} g := by
  unfold Has
  iintro ⟨%f, %hf, H⟩
  have e : ∀ j ∈ m.view.set, f j = g j := by
    intro j hj
    obtain ⟨x, -, rfl⟩ := Finset.mem_map.mp hj
    have := congrFun (hf.trans h.symm) x
    rw [View.read_apply, View.read_apply] at this
    exact (cast_inj _).mp this
  iapply (Entails.of_eq (pointsTo_congr (Val := Elt F) e))
  iexact H

/-- What is held of a memref's elements is what is read of them. -/
theorem pts_has {sp : Space} {s : Shape} {e : EltTy} (m : Memref sig .scVector sp s e) (g : Buf (Elt F) (m.view.loc (V d c i))) :
    (m.view.loc (V d c i) ↦[m.view.set]{fullShare} g : sProp 𝕄) ⊢ Has d c i m (m.view.read (Elt F) g) := by
  unfold Has
  iintro H
  iexists g; isplitr; · ipureintro; rfl
  iexact H

/-- A buffer held whole at some contents is two disjoint halves of it, each held at some contents. -/
theorem halves {ℓ : Loc nD τ sig} (S S' : Finset (Idx ℓ)) (hd : Disjoint S S') (hu : S ∪ S' = Finset.univ) :
    (iprop(∃ f : Buf (Elt F) ℓ, ℓ ↦{fullShare} f) : sProp 𝕄) ⊣⊢ iprop((∃ f : Buf (Elt F) ℓ, ℓ ↦[S]{fullShare} f) ∗ (∃ f : Buf (Elt F) ℓ, ℓ ↦[S']{fullShare} f)) := by
  constructor
  · iintro ⟨%f, H⟩
    ihave H' := (Entails.of_eq (show (ℓ ↦{fullShare} f : sProp 𝕄) = iprop((ℓ ↦[S]{fullShare} f) ∗ (ℓ ↦[S']{fullShare} f)) from by
      rw [← pts_union hd, hu])) $$ H
    icases H' with ⟨H1, H2⟩
    isplitl [H1]
    · iexists f; iexact H1
    · iexists f; iexact H2
  · iintro ⟨⟨%f, H1⟩, %g, H2⟩
    ihave H := (pointsTo_join (q := fullShare) hd) $$ [H1 H2]
    · isplitl [H1] <;> iassumption
    iexists _
    iapply (Entails.of_eq (show (ℓ ↦[S ∪ S']{fullShare} _ : sProp 𝕄) = (ℓ ↦{fullShare} _) from by rw [hu])) $$ H

end Holds

end Cert.Proof.Lookup

end
-- ==== Proof.GatherViews.lean ====
/-
  The views of the gather call: one chunk of the index list, one chunk of output rows, one slot of either scratch buffer,
  the whole table — what each reads, which elements it names, and what a gathered chunk is.
-/
module

public import proofs.«01_k».proof.Proof.Views

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

/-- The table of 16-wide rows. -/
abbrev tblV : Memref sig .scVector .hbm S1572864x16 .f32 := Memref.whole main_v0_scv
/-- The list of 16-wide row numbers. -/
abbrev idsV : Memref sig .scVector .hbm S2097152 .i32 := Memref.whole main_v9_scv
/-- The gathered 16-wide rows. -/
abbrev outV : Memref sig .scVector .hbm S2097152x16 .f32 := Memref.whole main_v10_scv
/-- A subcore's two slots of row numbers. -/
abbrev idxV : Memref sig .scVector .vmem S2x1024 .i32 := Memref.whole cc0_scratch0
/-- A subcore's two slots of rows. -/
abbrev rowV : Memref sig .scVector .vmem S2x1024x16 .f32 := Memref.whole cc0_scratch1

/-- The whole table, as the gather addresses it. -/
abbrev tblA : Memref sig .scVector .hbm S1572864x16 .f32 :=
  tblV.slice (Rect.unit (s := S1572864x16) ![0, 0] S1572864x16.size inb_S1572864x16_S1572864x16_0_0) (fun _ => rfl)
/-- Slot `b` of row numbers. -/
abbrev idxS (b : ℕ) (h : ∀ a, (![b, 0] : Fin 2 → ℕ) a + S1x1024.size a ≤ S2x1024.size a) : Memref sig .scVector .vmem S1024 .i32 :=
  (idxV.slice (Rect.unit (s := S2x1024) ![b, 0] S1x1024.size h) (fun _ => rfl)).squeeze S1024 squeezes_S1x1024_S1024
/-- Slot `b` of rows. -/
abbrev rowS (b : ℕ) (h : ∀ a, (![b, 0, 0] : Fin 3 → ℕ) a + S1x1024x16.size a ≤ S2x1024x16.size a) : Memref sig .scVector .vmem S1024x16 .f32 :=
  (rowV.slice (Rect.unit (s := S2x1024x16) ![b, 0, 0] S1x1024x16.size h) (fun _ => rfl)).squeeze S1024x16 squeezes_S1x1024x16_S1024x16
/-- The 1024 row numbers from `off`. -/
abbrev idsC (off : Fin 1 → ℕ) (h : ∀ a, off a + S1024.size a ≤ S2097152.size a) : Memref sig .scVector .hbm S1024 .i32 :=
  idsV.slice (Rect.unit (s := S2097152) off S1024.size h) (fun _ => rfl)
/-- The 1024 output rows from `off`. -/
abbrev outC (off : Fin 2 → ℕ) (h : ∀ a, off a + S1024x16.size a ≤ S2097152x16.size a) : Memref sig .scVector .hbm S1024x16 .f32 :=
  outV.slice (Rect.unit (s := S2097152x16) off S1024x16.size h) (fun _ => rfl)

/-- A chunk of the list reads the list from its offset on. -/
theorem read_idsC (off : Fin 1 → ℕ) (h : ∀ a, off a + S1024.size a ≤ S2097152.size a) (f : S2097152.Idx → Elt F .i32) :
    (idsC off h).view.read (Elt F) f = fun x => rd1 f (off 0 + (x 0).val) := by
  funext x
  refine ((View.read_apply _ _).trans (cast_eq _ _)).trans (rd1_val f _ ?_).symm
  show off 0 + 1 * (x 0).val = _
  omega

/-- A chunk of output rows reads the rows from its offset on. -/
theorem read_outC (off : Fin 2 → ℕ) (h : ∀ a, off a + S1024x16.size a ≤ S2097152x16.size a) (h1 : off 1 = 0) (f : S2097152x16.Idx → Elt F .f32) :
    (outC off h).view.read (Elt F) f = fun x => rd2 f (off 0 + (x 0).val) (x 1) := by
  funext x
  refine ((View.read_apply _ _).trans (cast_eq _ _)).trans (rd2_val f _ ?_ ?_).symm
  · show off 0 + 1 * (x 0).val = _
    omega
  · show off 1 + 1 * (x 1).val = _
    omega

/-- A chunk of output rows is 1024 whole rows. -/
theorem set_outC (off : Fin 2 → ℕ) (h : ∀ a, off a + S1024x16.size a ≤ S2097152x16.size a) (h1 : off 1 = 0) {a b : ℕ} (h0 : off 0 = a) (hb : a + 1024 = b) :
    (outC off h).view.set = rowsIn (n := 2097152) (m := 16) a b := by
  show ((View.whole (main_v10_scv : Ref sig .scVector)).slice _).set = _
  rw [View.set_slice_whole]
  exact unit_rowsIn h0 hb h1 rfl

/-- What an indirect gather brings: row `w k` of the table at place `k`. -/
theorem payload_eq (f : S1572864x16.Idx → Elt F .f32) (w : S1024.Idx → Elt F .i32) (hn : S1024.numel = S1024x16.size gathers_S1572864x16_S1024x16.axis')
    (hin : ∀ x, (w x).toNat < S1572864x16.size gathers_S1572864x16_S1024x16.axis) :
    SparseCore.gatherPayload gathers_S1572864x16_S1024x16 (tblA.view.read (Elt F) f) (SparseCore.rows w hn hin)
      = fun x => rd2 f (w (ix1 (n := 1024) (x 0))).toNat (x 1) := by
  funext x
  unfold SparseCore.gatherPayload
  refine ((View.read_apply _ _).trans (cast_eq _ _)).trans (rd2_val f _ ?_ ?_).symm
  · show 0 + 1 * (gathers_S1572864x16_S1024x16.idx (SparseCore.rows w hn hin) x gathers_S1572864x16_S1024x16.axis).val = _
    rw [Shape.Gathers.idx_axis]
    show 0 + 1 * (w (S1024.rowMajor.symm ((x gathers_S1572864x16_S1024x16.axis').cast hn.symm))).toNat = _
    rw [show S1024.rowMajor.symm ((x gathers_S1572864x16_S1024x16.axis').cast hn.symm) = ix1 (n := 1024) (x 0) from by
      rw [Equiv.symm_apply_eq]
      exact Fin.ext (Shape.rowMajor_val_one (d := ![1024]) (ix1 (x 0))).symm]
    omega
  · show 0 + 1 * (gathers_S1572864x16_S1024x16.idx (SparseCore.rows w hn hin) x 1).val = _
    rw [Shape.Gathers.idx_of_ne _ _ _ 1 (by decide)]
    show 0 + 1 * (x 1).val = _
    omega

/-- The credits of a slot's rows add up to the slot's. -/
theorem credit_rows (b : ℕ) (h : ∀ a, (![b, 0, 0] : Fin 3 → ℕ) a + S1x1024x16.size a ≤ S2x1024x16.size a) :
    ∑ j, ((rowS b h).slice (S1024x16.rowRect gathers_S1572864x16_S1024x16.axis' j) (S1024x16.stride_rowRect gathers_S1572864x16_S1024x16.axis' j)).view.dmaCredit
      = (rowS b h).view.dmaCredit :=
  SparseCore.sum_rowCredit_eq_dmaCredit (rowS b h) _ fun _ => rfl

/-- Slot `b` of row numbers is the elements of first coordinate `b`. -/
theorem mem_idxS (b : ℕ) (h : ∀ a, (![b, 0] : Fin 2 → ℕ) a + S1x1024.size a ≤ S2x1024.size a) (i : S2x1024.Idx) : i ∈ (idxS b h).view.set ↔ (i 0).val = b := by
  show i ∈ (((View.whole (cc0_scratch0 : Ref sig .scVector)).slice (Rect.unit (s := S2x1024) ![b, 0] S1x1024.size h)).reshape S1024 squeezes_S1x1024_S1024.numel_eq).set ↔ _
  rw [View.set_reshape, View.set_slice_whole, Rect.mem_set_unit]
  have := idx2_lt1 i
  constructor
  · intro h; have := h 0; simp at this; omega
  · intro h; exact Fin.forall_fin_two.mpr ⟨by simp; omega, by simpa using this⟩

/-- Slot `b` of rows is the elements of first coordinate `b`. -/
theorem mem_rowS (b : ℕ) (h : ∀ a, (![b, 0, 0] : Fin 3 → ℕ) a + S1x1024x16.size a ≤ S2x1024x16.size a) (i : S2x1024x16.Idx) : i ∈ (rowS b h).view.set ↔ (i 0).val = b := by
  show i ∈ (((View.whole (cc0_scratch1 : Ref sig .scVector)).slice (Rect.unit (s := S2x1024x16) ![b, 0, 0] S1x1024x16.size h)).reshape S1024x16 squeezes_S1x1024x16_S1024x16.numel_eq).set ↔ _
  rw [View.set_reshape, View.set_slice_whole, Rect.mem_set_unit]
  constructor
  · intro h; have := h 0; simp at this; omega
  · intro h a
    match a with
    | 0 => simp; omega
    | 1 => simpa using (i 1).isLt
    | 2 => simpa using (i 2).isLt

end Cert.Proof.Lookup

end
-- ==== Proof.GatherSteps.lean ====
/-
  The gather call's steps on one subcore, each with its value: a fetch of row numbers, an indirect gather of the rows
  they name, a write-out of gathered rows.
-/
module

public import proofs.«01_k».proof.Proof.GatherViews

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig (HIx 2) (Elt F) ℕ UU ℕ

/-! ## Values -/

variable (FT : S1572864x16.Idx → Elt F .f32) (FI : S2097152.Idx → Elt F .i32)

/-- The gathered array: row `k` is the table's row that the list's entry `k` names. -/
def gath : S2097152x16.Idx → Elt F .f32 := fun x => rd2 FT (rd1 FI (x 0).val).toNat (x 1)

/-- The 1024 row numbers from `p` on. -/
def idsAt (p : ℕ) : S1024.Idx → Elt F .i32 := fun x => rd1 FI (p + (x 0).val)

/-- The 1024 gathered rows from `p` on. -/
def rowsAt (p : ℕ) : S1024x16.Idx → Elt F .f32 := fun x => rd2 (gath FT FI) (p + (x 0).val) (x 1)

/-- The rows named by a chunk of the list are that chunk of the gathered array. -/
theorem rowsAt_eq (p : ℕ) : (fun x : S1024x16.Idx => rd2 FT (idsAt FI p (ix1 (n := 1024) (x 0))).toNat (x 1)) = rowsAt FT FI p := by
  funext x
  show rd2 FT (rd1 FI (p + (x 0).val)).toNat (x 1) = rd2 FT (rd1 FI ((p + (x 0).val) % 2097152)).toNat (x 1)
  congr 2
  show FI (ix1 (Fin.ofNat 2097152 _)) = FI (ix1 (Fin.ofNat 2097152 _))
  congr 2
  exact Fin.ext (Nat.mod_mod _ _).symm

section Steps

variable (d : Dev nD) (c : Fin τ.nSC) (i : Fin τ.nSub)

/-- The list, at a share. -/
def Ids (q : PosShare TreeShare) : sProp 𝕄 := iprop(idsV.view.loc (V d c i) ↦{q} FI)

/-- The table, at a share. -/
def Tbl (q : PosShare TreeShare) : sProp 𝕄 := iprop(tblV.view.loc (V d c i) ↦{q} FT)

/-- Output rows `[a, b)`, gathered. -/
def Done (a b : ℕ) : sProp 𝕄 := iprop(outV.view.loc (V d c i) ↦[rowsIn (n := 2097152) (m := 16) a b]{fullShare} gath FT FI)

/-- Output rows `[a, b)`, at some contents. -/
def Todo (a b : ℕ) : sProp 𝕄 :=
  iprop(∃ f : Buf (Elt F) (outV.view.loc (V d c i)), outV.view.loc (V d c i) ↦[rowsIn (n := 2097152) (m := 16) a b]{fullShare} f)

/-- The output rows of `[a, e)` are those of `[a, b)` and those of `[b, e)`. -/
theorem todo_split {a b e : ℕ} (h : a ≤ b) (h' : b ≤ e) : (Todo d c i a e : sProp 𝕄) ⊢ iprop(Todo d c i a b ∗ Todo d c i b e) := by
  unfold Todo
  iintro ⟨%f, H⟩
  ihave H' := (Entails.of_eq (show (outV.view.loc (V d c i) ↦[rowsIn (n := 2097152) (m := 16) a e]{fullShare} f : sProp 𝕄) = _ from by
    rw [← rowsIn_union h h', pts_union (rowsIn_disjoint le_rfl)])) $$ H
  icases H' with ⟨H1, H2⟩
  isplitl [H1]
  · iexists f; iexact H1
  · iexists f; iexact H2

/-- Gathered rows join. -/
theorem done_join {a b e : ℕ} (h : a ≤ b) (h' : b ≤ e) : iprop(Done FT FI d c i a b ∗ Done FT FI d c i b e) ⊢ (Done FT FI d c i a e : sProp 𝕄) := by
  unfold Done
  exact Entails.of_eq (by rw [← rowsIn_union h h', pts_union (rowsIn_disjoint le_rfl)])

/-- No rows gathered yet. -/
theorem done_nil (a : ℕ) : (emp : sProp 𝕄) ⊢ Done FT FI d c i a a := by
  unfold Done
  rw [rowsIn_empty le_rfl]
  exact Entails.of_eq pointsTo_empty.symm

variable [FloatOps F]

/-- The fetch of a chunk of row numbers into a slot. -/
theorem wp_fetch (off : Fin 1 → ℕ) (h : ∀ a, off a + S1024.size a ≤ S2097152.size a) (b : ℕ) (hb : ∀ a, (![b, 0] : Fin 2 → ℕ) a + S1x1024.size a ≤ S2x1024.size a)
    (sem : DmaSem sig) {hsrc : (idsC off h).view.WordExact} {hdst : (idxS b hb).view.WordExact}
    {hsem : DmaTarget.Typed (nD := nD) .hbm (.dma sem) (DmaTarget.here (p := Proc.scVector c i) (idxS b hb))}
    {q : PosShare TreeShare} {p : ℕ} (hp : off 0 = p) {Ψ : PUnit → sProp 𝕄} :
    iprop(Ids FI d c i q ∗ Free d c i (idxS b hb) ∗ Zero d c i sem)
      ⊢ iprop((Fl d c i sem (idxS b hb).view.dmaCredit iprop(Has d c i (idxS b hb) (idsAt FI p) ∗ Ids FI d c i q) -∗ Ψ ⟨⟩)
          -∗ wp frame (wpE (defs₀ (F := F)) 𝒱₀ (V d c i) none) Set.univ
              (Prog.lift (.enqueueDma (idsC off h) (DmaTarget.here (p := Proc.scVector c i) (idxS b hb)) (.dma sem) hsrc hdst hsem)) Ψ) := by
  subst hp
  have e : (idsC off h).view.read (Elt F) FI = idsAt FI (off 0) := read_idsC off h FI
  have := wp_issue d c i (idsC off h) (idxS b hb) sem (hsrc := hsrc) (hdst := hdst) (hsem := hsem) (q := q) (fs := FI)
    (Se := Finset.univ) (Finset.subset_univ _) (by decide) (Ψ := Ψ)
  rw [e] at this
  exact this

/-- The indirect gather of the rows a slot of row numbers names. -/
theorem wp_rows (b : ℕ) (hb : ∀ a, (![b, 0, 0] : Fin 3 → ℕ) a + S1x1024x16.size a ≤ S2x1024x16.size a)
    (b' : ℕ) (hb' : ∀ a, (![b', 0] : Fin 2 → ℕ) a + S1x1024.size a ≤ S2x1024.size a) (sem : DmaSem sig)
    {hp : (Proc.scVector c i : Proc τ).kind = .scVector} {hsrc : tblA.view.WordExact} {he : (EltTy.f32).bits = 32} {hsp : Space.hbm = .hbm ∨ Space.hbm = .shared} {hr : S1572864x16.StreamRows 0}
    {hn : S1024.numel = S1024x16.size gathers_S1572864x16_S1024x16.axis'}
    {q : PosShare TreeShare} {p : ℕ} (hin : ∀ x, (FI x).toNat < 1572864) {Ψ : PUnit → sProp 𝕄} :
    iprop(Tbl FT d c i q ∗ Free d c i (rowS b hb) ∗ Has d c i (idxS b' hb') (idsAt FI p) ∗ Zero d c i sem)
      ⊢ iprop((Fl d c i sem (rowS b hb).view.dmaCredit iprop(Has d c i (rowS b hb) (rowsAt FT FI p) ∗ Tbl FT d c i q ∗ Free d c i (idxS b' hb')) -∗ Ψ ⟨⟩)
          -∗ wp frame (wpE (defs₀ (F := F)) 𝒱₀ (V d c i) none) Set.univ
              (SparseCore.enqueueIndirectGather hp tblA (rowS b hb) gathers_S1572864x16_S1024x16 (idxS b' hb') hn sem hsrc he hsp hr) Ψ) := by
  have hin' : ∀ x, (idsAt FI p x).toNat < S1572864x16.size gathers_S1572864x16_S1024x16.axis := fun x => hin _
  have := wp_gather d c i tblA (rowS b hb) gathers_S1572864x16_S1024x16 (idxS b' hb') hn sem (hp := hp) (hsrc := hsrc) (he := he) (hsp := hsp) (hr := hr)
    (q := q) (fs := FT) (Se := Finset.univ) (Finset.subset_univ _) (w := idsAt FI p) (credit_rows b hb) (by decide) hin' (Ψ := Ψ)
  rw [payload_eq, rowsAt_eq] at this
  exact this

/-- The write-out of a slot of gathered rows. -/
theorem wp_out (b : ℕ) (hb : ∀ a, (![b, 0, 0] : Fin 3 → ℕ) a + S1x1024x16.size a ≤ S2x1024x16.size a)
    (off : Fin 2 → ℕ) (h : ∀ a, off a + S1024x16.size a ≤ S2097152x16.size a) (sem : DmaSem sig)
    {hsrc : (rowS b hb).view.WordExact} {hdst : (outC off h).view.WordExact} {hsem : DmaTarget.Typed (nD := nD) .vmem (.dma sem) (DmaTarget.here (p := Proc.scVector c i) (outC off h))}
    {p p' : ℕ} (hp : off 0 = p) (h1 : off 1 = 0) (hp' : p + 1024 = p') {Ψ : PUnit → sProp 𝕄} :
    iprop(Has d c i (rowS b hb) (rowsAt FT FI p) ∗ Todo d c i p p' ∗ Zero d c i sem)
      ⊢ iprop((Fl d c i sem (outC off h).view.dmaCredit iprop(Done FT FI d c i p p' ∗ Free d c i (rowS b hb)) -∗ Ψ ⟨⟩)
          -∗ wp frame (wpE (defs₀ (F := F)) 𝒱₀ (V d c i) none) Set.univ
              (Prog.lift (.enqueueDma (rowS b hb) (DmaTarget.here (p := Proc.scVector c i) (outC off h)) (.dma sem) hsrc hdst hsem)) Ψ) := by
  have hset : (outC off h).view.set = rowsIn (n := 2097152) (m := 16) p p' := set_outC off h h1 hp hp'
  have hread : (outC off h).view.read (Elt F) (gath FT FI) = rowsAt FT FI p := by rw [read_outC off h h1, hp]; rfl
  have e1 : (Free d c i (outC off h) : sProp 𝕄) = Todo d c i p p' := by unfold Free Todo; rw [hset]
  have e2 : (Has d c i (outC off h) (rowsAt FT FI p) : sProp 𝕄) ⊢ Done FT FI d c i p p' := by
    unfold Done; rw [← hset]; exact has_pts d c i (outC off h) _ (gath FT FI) hread
  iintro ⟨H1, H2, H3⟩ Hk
  iapply (wp_issueHas d c i (rowS b hb) (outC off h) sem (rowsAt FT FI p) (by decide)) $$ [H1 H2 H3]
  · isplitl [H1]; · iexact H1
    isplitl [H2]; · rw [e1]; iexact H2
    iexact H3
  iintro Hfl
  iapply Hk
  iapply (fl_mono (F := F) d c i ?_) $$ Hfl
  iintro ⟨H1, H2⟩
  isplitl [H1]; · iapply e2 $$ H1
  iexact H2

end Steps

end Cert.Proof.Lookup

end
-- ==== Proof.Gather.lean ====
/-
  The gather call's body on one subcore: 64 chunks of 1024 rows, two a trip. While one chunk's rows stream in, the next
  chunk's row numbers are fetched and the chunk before is written out.
-/
module

public import proofs.«01_k».proof.Proof.GatherSteps

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig (HIx 2) (Elt F) ℕ UU ℕ

variable (FT : S1572864x16.Idx → Elt F .f32) (FI : S2097152.Idx → Elt F .i32)

/-- The semaphore of the gather into slot `b` of the rows. -/
abbrev gsem (b : ℕ) (h : ∀ a, (![b] : Fin 1 → ℕ) a + S1.size a ≤ S2.size a) : DmaSem sig :=
  ((cc0_scratch2.slice (Rect.unit (s := S2) ![b] S1.size h)).squeeze S_ squeezes_S1_S_).sem
/-- The semaphore of the fetch into slot `b` of the row numbers. -/
abbrev isem (b : ℕ) (h : ∀ a, (![b] : Fin 1 → ℕ) a + S1.size a ≤ S2.size a) : DmaSem sig :=
  ((cc0_scratch3.slice (Rect.unit (s := S2) ![b] S1.size h)).squeeze S_ squeezes_S1_S_).sem
/-- The semaphore of the gathers into slot 0. -/
abbrev gsem0 : DmaSem sig := gsem 0 inb_S2_S1_0
/-- The semaphore of the gathers into slot 1. -/
abbrev gsem1 : DmaSem sig := gsem 1 inb_S2_S1_1
/-- The semaphore of the fetches into slot 0. -/
abbrev isem0 : DmaSem sig := isem 0 inb_S2_S1_0
/-- The semaphore of the fetches into slot 1. -/
abbrev isem1 : DmaSem sig := isem 1 inb_S2_S1_1
/-- Slot 0 of the row numbers. -/
abbrev idx0 := idxS 0 inb_S2x1024_S1x1024_0_0
/-- Slot 1 of the row numbers. -/
abbrev idx1 := idxS 1 inb_S2x1024_S1x1024_1_0
/-- Slot 0 of the gathered rows. -/
abbrev row0 := rowS 0 inb_S2x1024x16_S1x1024x16_0_0_0
/-- Slot 1 of the gathered rows. -/
abbrev row1 := rowS 1 inb_S2x1024x16_S1x1024x16_1_0_0

section Body

variable (d : Dev nD) (L : grid0.Coords)

/-- The subcore a task of the gather runs on, and its first row. -/
abbrev cV : Fin τ.nSC := (L 0).castLE hcore0
/-- The number of that subcore in its SparseCore. -/
abbrev jV : Fin τ.nSub := (L 1).castLE hsub0
/-- The first row of the output that a task of the gather writes. -/
abbrev base0 : ℕ := 131072 * (L 1).val + 65536 * (L 0).val

variable (r0 r1 q0 q1 : PosShare TreeShare)

/-- What a trip starts from at chunk row `p`: the rows from `p` on streaming into slot 0, the row numbers from `p + 1024`
    on being fetched into slot 1, everything before `p` gathered. -/
def Mid (p : ℕ) : sProp 𝕄 :=
  iprop(Fl d (cV L) (jV L) gsem0 row0.view.dmaCredit iprop(Has d (cV L) (jV L) row0 (rowsAt FT FI p) ∗ Tbl FT d (cV L) (jV L) q0 ∗ Free d (cV L) (jV L) idx0)
    ∗ Fl d (cV L) (jV L) isem1 idx1.view.dmaCredit iprop(Has d (cV L) (jV L) idx1 (idsAt FI (p + 1024)) ∗ Ids FI d (cV L) (jV L) r1)
    ∗ Zero d (cV L) (jV L) isem0 ∗ Ids FI d (cV L) (jV L) r0 ∗ Zero d (cV L) (jV L) gsem1 ∗ Tbl FT d (cV L) (jV L) q1 ∗ Free d (cV L) (jV L) row1
    ∗ Zero d (cV L) (jV L) cc0_scoped1.sem ∗ Zero d (cV L) (jV L) cc0_scoped2.sem
    ∗ Done FT FI d (cV L) (jV L) (base0 L) p ∗ Todo d (cV L) (jV L) p (base0 L + 65536))

/-- What the last trip leaves: every row gathered, everything else free. -/
def Fin0 : sProp 𝕄 :=
  iprop((Free d (cV L) (jV L) idx0 ∗ Free d (cV L) (jV L) idx1 ∗ Free d (cV L) (jV L) row0 ∗ Free d (cV L) (jV L) row1)
    ∗ (Zero d (cV L) (jV L) gsem0 ∗ Zero d (cV L) (jV L) gsem1 ∗ Zero d (cV L) (jV L) isem0 ∗ Zero d (cV L) (jV L) isem1
      ∗ Zero d (cV L) (jV L) cc0_scoped1.sem ∗ Zero d (cV L) (jV L) cc0_scoped2.sem)
    ∗ (Ids FI d (cV L) (jV L) r0 ∗ Ids FI d (cV L) (jV L) r1 ∗ Tbl FT d (cV L) (jV L) q0 ∗ Tbl FT d (cV L) (jV L) q1)
    ∗ Done FT FI d (cV L) (jV L) (base0 L) (base0 L + 65536))

variable [FloatOps F]

/-- Slot 0's next fetch is issued on every trip but the last. -/
theorem cond_0_1 : ∀ t : Fin k0_t1_loop.trips, k0_cond1 t = 1#1 ↔ t.val < 31 := by decide +kernel

/-- Slot 1's gather is issued on every trip. -/
theorem cond_0_2 : ∀ t : Fin k0_t1_loop.trips, k0_cond2 t = 1#1 := by decide +kernel

/-- Slot 1's next fetch is issued on every trip but the last. -/
theorem cond_0_3 : ∀ t : Fin k0_t1_loop.trips, k0_cond3 t = 1#1 ↔ t.val < 31 := by decide +kernel

/-- Slot 0's next gather is issued on every trip but the last. -/
theorem cond_0_4 : ∀ t : Fin k0_t1_loop.trips, k0_cond4 t = 1#1 ↔ t.val < 31 := by decide +kernel

/-- Where a trip writes slot 0's rows. -/
theorem off_0_5_0 (t : Fin k0_t1_loop.trips) : k0_off5 L t 0#32 = ![base0 L + 2048 * t.val, 0] := k0_off5_eq L t 0

/-- Where a trip writes slot 1's rows. -/
theorem off_0_5_1 (t : Fin k0_t1_loop.trips) : k0_off5 L t 1#32 = ![base0 L + 2048 * t.val + 1024, 0] := k0_off5_eq L t 1

set_option maxHeartbeats 4000000 in
/-- A trip before the last: two chunks written out, the next two under way. -/
theorem trip0 (hin : ∀ x, (FI x).toNat < 1572864) (O : CellTallies nD τ sig (HIx 2)) (W : Waits sig (HIx 2)) (v2 z0 : BitVec 32) (t : Fin k0_t1_loop.trips) (ht : t.val < 31) :
    iprop(Transfers.MayWaits (V d (cV L) (jV L)) (default : HIx 2) O ∗ Mid FT FI d L r0 r1 q0 q1 (base0 L + 2048 * t.val) ∗ Ow d (cV L) (jV L) O W)
      ⊢ wp frame (wpE (defs₀ (F := F)) 𝒱₀ (V d (cV L) (jV L)) none) Set.univ
          (k0_t1_body L tblV (Memref.isWhole_whole _) idsV (Memref.isWhole_whole _) outV (Memref.isWhole_whole _) idxV (Memref.isWhole_whole _)
            rowV (Memref.isWhole_whole _) cc0_scratch2 cc0_scratch3 cc0_scoped0 cc0_scoped1 cc0_scoped2 v2 z0 t ⟨⟩)
          fun _ => iprop(Mid FT FI d L r0 r1 q0 q1 (base0 L + 2048 * t.val + 2048) ∗ Ow d (cV L) (jV L) O W) := by
  have h1 := (cond_0_1 t).mpr ht
  have h3 := (cond_0_3 t).mpr ht
  have h4 := (cond_0_4 t).mpr ht
  unfold k0_t1_body
  simp only [k0_part1_eq_skeleton, k0_part2_eq_skeleton, k0_part1_skel, k0_part2_skel, dif_pos h1, dif_pos (cond_0_2 t), dif_pos h3, dif_pos h4, wp_bind, wp_pure]
  unfold Mid
  iintro ⟨#Hmw, ⟨Hg0, Hf1, Zi0, Hr0, Zg1, Hq1, Frow1, Zs1, Zs2, Hdone, Htodo⟩, HO⟩
  -- the rows of the first chunk have come in
  iapply (wp_wait d (cV L) (jV L) tblA row0 gsem0 rfl) $$ [Hg0 HO]
  · isplitr; · iexact Hmw
    isplitl [Hg0] <;> iassumption
  iintro ⟨⟨Hrow0, Hq0, Fidx0⟩, Zg0, HO⟩
  -- fetch the row numbers two chunks on
  iapply (wp_fetch FI d (cV L) (jV L) (k0_off3 L t) (k0_off3_inb L t h1) 0 inb_S2x1024_S1x1024_0_0 isem0 (p := base0 L + 2048 * t.val + 2048) (by rw [k0_off3_eq]; rfl)) $$ [Hr0 Fidx0 Zi0]
  · isplitl [Hr0]; · iexact Hr0
    isplitl [Fidx0] <;> iassumption
  iintro Hf0
  -- the second chunk's row numbers are there: gather its rows
  iapply (wp_wait d (cV L) (jV L) (idsC (k0_off4 L) (k0_off4_inb L t (cond_0_2 t))) idx1 isem1 rfl) $$ [Hf1 HO]
  · isplitr; · iexact Hmw
    isplitl [Hf1] <;> iassumption
  iintro ⟨⟨Hidx1, Hr1⟩, Zi1, HO⟩
  iapply (wp_rows FT FI d (cV L) (jV L) 1 inb_S2x1024x16_S1x1024x16_1_0_0 1 inb_S2x1024_S1x1024_1_0 gsem1 hin) $$ [Hq1 Frow1 Hidx1 Zg1]
  · isplitl [Hq1]; · iexact Hq1
    isplitl [Frow1]; · iexact Frow1
    isplitl [Hidx1] <;> iassumption
  iintro Hg1
  -- the first chunk's rows go out
  ihave Ht := (todo_split d (cV L) (jV L) (b := base0 L + 2048 * t.val + 1024) (by omega) (by omega)) $$ Htodo
  icases Ht with ⟨Hta, Htodo⟩
  iapply (wp_out FT FI d (cV L) (jV L) 0 inb_S2x1024x16_S1x1024x16_0_0_0 (k0_off5 L t 0#32) (k0_off5_inb L t 0) cc0_scoped1.sem
    (p := base0 L + 2048 * t.val) (p' := base0 L + 2048 * t.val + 1024) (by rw [off_0_5_0]; rfl) (by rw [off_0_5_0]; rfl) rfl) $$ [Hrow0 Hta Zs1]
  · isplitl [Hrow0]; · iexact Hrow0
    isplitl [Hta] <;> iassumption
  iintro Ho
  imodintro
  iapply (wp_wait d (cV L) (jV L) row0 (outC (k0_off5 L t 0#32) (k0_off5_inb L t 0)) cc0_scoped1.sem rfl) $$ [Ho HO]
  · isplitr; · iexact Hmw
    isplitl [Ho] <;> iassumption
  iintro ⟨⟨Hda, Frow0⟩, Zs1, HO⟩
  -- the rows of the second chunk have come in
  iapply (wp_wait d (cV L) (jV L) tblA row1 gsem1 rfl) $$ [Hg1 HO]
  · isplitr; · iexact Hmw
    isplitl [Hg1] <;> iassumption
  iintro ⟨⟨Hrow1, Hq1, Fidx1⟩, Zg1, HO⟩
  iapply (wp_fetch FI d (cV L) (jV L) (k0_off6 L t) (k0_off6_inb L t h3) 1 inb_S2x1024_S1x1024_1_0 isem1 (p := base0 L + 2048 * t.val + 2048 + 1024) (by rw [k0_off6_eq]; rfl)) $$ [Hr1 Fidx1 Zi1]
  · isplitl [Hr1]; · iexact Hr1
    isplitl [Fidx1] <;> iassumption
  iintro Hf1
  iapply (wp_wait d (cV L) (jV L) (idsC (k0_off7 L) (k0_off7_inb L t h4)) idx0 isem0 rfl) $$ [Hf0 HO]
  · isplitr; · iexact Hmw
    isplitl [Hf0] <;> iassumption
  iintro ⟨⟨Hidx0, Hr0⟩, Zi0, HO⟩
  iapply (wp_rows FT FI d (cV L) (jV L) 0 inb_S2x1024x16_S1x1024x16_0_0_0 0 inb_S2x1024_S1x1024_0_0 gsem0 hin) $$ [Hq0 Frow0 Hidx0 Zg0]
  · isplitl [Hq0]; · iexact Hq0
    isplitl [Frow0]; · iexact Frow0
    isplitl [Hidx0] <;> iassumption
  iintro Hg0
  -- the second chunk's rows go out
  ihave Ht := (todo_split d (cV L) (jV L) (b := base0 L + 2048 * t.val + 2048) (by omega) (by omega)) $$ Htodo
  icases Ht with ⟨Htb, Htodo⟩
  iapply (wp_out FT FI d (cV L) (jV L) 1 inb_S2x1024x16_S1x1024x16_1_0_0 (k0_off5 L t 1#32) (k0_off5_inb L t 1) cc0_scoped2.sem
    (p := base0 L + 2048 * t.val + 1024) (p' := base0 L + 2048 * t.val + 2048) (by rw [off_0_5_1]; rfl) (by rw [off_0_5_1]; rfl) rfl) $$ [Hrow1 Htb Zs2]
  · isplitl [Hrow1]; · iexact Hrow1
    isplitl [Htb] <;> iassumption
  iintro Ho
  imodintro
  iapply (wp_wait d (cV L) (jV L) row1 (outC (k0_off5 L t 1#32) (k0_off5_inb L t 1)) cc0_scoped2.sem rfl) $$ [Ho HO]
  · isplitr; · iexact Hmw
    isplitl [Ho] <;> iassumption
  iintro ⟨⟨Hdb, Frow1⟩, Zs2, HO⟩
  imodintro
  ihave Hdone := (done_join FT FI d (cV L) (jV L) (a := base0 L) (b := base0 L + 2048 * t.val) (e := base0 L + 2048 * t.val + 1024) (by omega) (by omega)) $$ [Hdone Hda]
  · isplitl [Hdone] <;> iassumption
  ihave Hdone := (done_join FT FI d (cV L) (jV L) (a := base0 L) (b := base0 L + 2048 * t.val + 1024) (e := base0 L + 2048 * t.val + 2048) (by omega) (by omega)) $$ [Hdone Hdb]
  · isplitl [Hdone] <;> iassumption
  isplitr [HO]; swap; · iexact HO
  isplitl [Hg0]; · iexact Hg0
  isplitl [Hf1]; · iexact Hf1
  isplitl [Zi0]; · iexact Zi0
  isplitl [Hr0]; · iexact Hr0
  isplitl [Zg1]; · iexact Zg1
  isplitl [Hq1]; · iexact Hq1
  isplitl [Frow1]; · iexact Frow1
  isplitl [Zs1]; · iexact Zs1
  isplitl [Zs2]; · iexact Zs2
  isplitl [Hdone] <;> iassumption

set_option maxHeartbeats 4000000 in
/-- The last trip: the last two chunks written out, nothing left under way. -/
theorem lastTrip0 (hin : ∀ x, (FI x).toNat < 1572864) (O : CellTallies nD τ sig (HIx 2)) (W : Waits sig (HIx 2)) (v2 z0 : BitVec 32) (t : Fin k0_t1_loop.trips) (ht : t.val = 31) :
    iprop(Transfers.MayWaits (V d (cV L) (jV L)) (default : HIx 2) O ∗ Mid FT FI d L r0 r1 q0 q1 (base0 L + 2048 * t.val) ∗ Ow d (cV L) (jV L) O W)
      ⊢ wp frame (wpE (defs₀ (F := F)) 𝒱₀ (V d (cV L) (jV L)) none) Set.univ
          (k0_t1_body L tblV (Memref.isWhole_whole _) idsV (Memref.isWhole_whole _) outV (Memref.isWhole_whole _) idxV (Memref.isWhole_whole _)
            rowV (Memref.isWhole_whole _) cc0_scratch2 cc0_scratch3 cc0_scoped0 cc0_scoped1 cc0_scoped2 v2 z0 t ⟨⟩)
          fun _ => iprop(Fin0 FT FI d L r0 r1 q0 q1 ∗ Ow d (cV L) (jV L) O W) := by
  have h1 : ¬ k0_cond1 t = 1#1 := fun h => by have := (cond_0_1 t).mp h; omega
  have h3 : ¬ k0_cond3 t = 1#1 := fun h => by have := (cond_0_3 t).mp h; omega
  have h4 : ¬ k0_cond4 t = 1#1 := fun h => by have := (cond_0_4 t).mp h; omega
  unfold k0_t1_body
  simp only [k0_part1_eq_skeleton, k0_part2_eq_skeleton, k0_part1_skel, k0_part2_skel, dif_neg h1, dif_pos (cond_0_2 t), dif_neg h3, dif_neg h4, wp_bind, wp_pure]
  unfold Mid Fin0
  iintro ⟨#Hmw, ⟨Hg0, Hf1, Zi0, Hr0, Zg1, Hq1, Frow1, Zs1, Zs2, Hdone, Htodo⟩, HO⟩
  iapply (wp_wait d (cV L) (jV L) tblA row0 gsem0 rfl) $$ [Hg0 HO]
  · isplitr; · iexact Hmw
    isplitl [Hg0] <;> iassumption
  iintro ⟨⟨Hrow0, Hq0, Fidx0⟩, Zg0, HO⟩
  iapply (wp_wait d (cV L) (jV L) (idsC (k0_off4 L) (k0_off4_inb L t (cond_0_2 t))) idx1 isem1 rfl) $$ [Hf1 HO]
  · isplitr; · iexact Hmw
    isplitl [Hf1] <;> iassumption
  iintro ⟨⟨Hidx1, Hr1⟩, Zi1, HO⟩
  iapply (wp_rows FT FI d (cV L) (jV L) 1 inb_S2x1024x16_S1x1024x16_1_0_0 1 inb_S2x1024_S1x1024_1_0 gsem1 hin) $$ [Hq1 Frow1 Hidx1 Zg1]
  · isplitl [Hq1]; · iexact Hq1
    isplitl [Frow1]; · iexact Frow1
    isplitl [Hidx1] <;> iassumption
  iintro Hg1
  ihave Ht := (todo_split d (cV L) (jV L) (b := base0 L + 2048 * t.val + 1024) (by omega) (by omega)) $$ Htodo
  icases Ht with ⟨Hta, Htodo⟩
  iapply (wp_out FT FI d (cV L) (jV L) 0 inb_S2x1024x16_S1x1024x16_0_0_0 (k0_off5 L t 0#32) (k0_off5_inb L t 0) cc0_scoped1.sem
    (p := base0 L + 2048 * t.val) (p' := base0 L + 2048 * t.val + 1024) (by rw [off_0_5_0]; rfl) (by rw [off_0_5_0]; rfl) rfl) $$ [Hrow0 Hta Zs1]
  · isplitl [Hrow0]; · iexact Hrow0
    isplitl [Hta] <;> iassumption
  iintro Ho
  imodintro
  iapply (wp_wait d (cV L) (jV L) row0 (outC (k0_off5 L t 0#32) (k0_off5_inb L t 0)) cc0_scoped1.sem rfl) $$ [Ho HO]
  · isplitr; · iexact Hmw
    isplitl [Ho] <;> iassumption
  iintro ⟨⟨Hda, Frow0⟩, Zs1, HO⟩
  iapply (wp_wait d (cV L) (jV L) tblA row1 gsem1 rfl) $$ [Hg1 HO]
  · isplitr; · iexact Hmw
    isplitl [Hg1] <;> iassumption
  iintro ⟨⟨Hrow1, Hq1, Fidx1⟩, Zg1, HO⟩
  iapply (wp_out FT FI d (cV L) (jV L) 1 inb_S2x1024x16_S1x1024x16_1_0_0 (k0_off5 L t 1#32) (k0_off5_inb L t 1) cc0_scoped2.sem
    (p := base0 L + 2048 * t.val + 1024) (p' := base0 L + 65536) (by rw [off_0_5_1]; rfl) (by rw [off_0_5_1]; rfl) (by omega)) $$ [Hrow1 Htodo Zs2]
  · isplitl [Hrow1]; · iexact Hrow1
    isplitl [Htodo] <;> iassumption
  iintro Ho
  imodintro
  iapply (wp_wait d (cV L) (jV L) row1 (outC (k0_off5 L t 1#32) (k0_off5_inb L t 1)) cc0_scoped2.sem rfl) $$ [Ho HO]
  · isplitr; · iexact Hmw
    isplitl [Ho] <;> iassumption
  iintro ⟨⟨Hdb, Frow1⟩, Zs2, HO⟩
  imodintro
  ihave Hdone := (done_join FT FI d (cV L) (jV L) (a := base0 L) (b := base0 L + 2048 * t.val) (e := base0 L + 2048 * t.val + 1024) (by omega) (by omega)) $$ [Hdone Hda]
  · isplitl [Hdone] <;> iassumption
  ihave Hdone := (done_join FT FI d (cV L) (jV L) (a := base0 L) (b := base0 L + 2048 * t.val + 1024) (e := base0 L + 65536) (by omega) (by omega)) $$ [Hdone Hdb]
  · isplitl [Hdone] <;> iassumption
  isplitr [HO]; swap; · iexact HO
  isplitl [Fidx0 Fidx1 Frow0 Frow1]
  · isplitl [Fidx0]; · iexact Fidx0
    isplitl [Fidx1]; · iexact Fidx1
    isplitl [Frow0] <;> iassumption
  isplitl [Zg0 Zg1 Zi0 Zi1 Zs1 Zs2]
  · isplitl [Zg0]; · iexact Zg0
    isplitl [Zg1]; · iexact Zg1
    isplitl [Zi0]; · iexact Zi0
    isplitl [Zi1]; · iexact Zi1
    isplitl [Zs1] <;> iassumption
  isplitr [Hdone]; swap; · iexact Hdone
  isplitl [Hr0]; · iexact Hr0
  isplitl [Hr1]; · iexact Hr1
  isplitl [Hq0] <;> iassumption

/-- The gather's loop makes thirty-two trips of two chunks. -/
theorem trips_0 : k0_t1_loop.trips = 32 := by decide +kernel

/-- What holds before trip `t`, and after the last. -/
def Inv0 (O : CellTallies nD τ sig (HIx 2)) (W : Waits sig (HIx 2)) (t : ℕ) : sProp 𝕄 :=
  iprop(Transfers.MayWaits (V d (cV L) (jV L)) (default : HIx 2) O
    ∗ (if t < 32 then Mid FT FI d L r0 r1 q0 q1 (base0 L + 2048 * t) else Fin0 FT FI d L r0 r1 q0 q1) ∗ Ow d (cV L) (jV L) O W)

set_option maxHeartbeats 4000000 in
/-- The gather's body: from shares of the table and of the list and its own block of the output, the block gathered. -/
theorem body0 (hin : ∀ x, (FI x).toNat < 1572864) (O : CellTallies nD τ sig (HIx 2)) (W : Waits sig (HIx 2)) :
    iprop(Transfers.MayWaits (V d (cV L) (jV L)) (default : HIx 2) O
        ∗ (Free d (cV L) (jV L) idx0 ∗ Free d (cV L) (jV L) idx1 ∗ Free d (cV L) (jV L) row0 ∗ Free d (cV L) (jV L) row1)
        ∗ (Zero d (cV L) (jV L) gsem0 ∗ Zero d (cV L) (jV L) gsem1 ∗ Zero d (cV L) (jV L) isem0 ∗ Zero d (cV L) (jV L) isem1
          ∗ Zero d (cV L) (jV L) cc0_scoped1.sem ∗ Zero d (cV L) (jV L) cc0_scoped2.sem)
        ∗ Zero d (cV L) (jV L) cc0_scoped0.sem
        ∗ (Ids FI d (cV L) (jV L) r0 ∗ Ids FI d (cV L) (jV L) r1 ∗ Tbl FT d (cV L) (jV L) q0 ∗ Tbl FT d (cV L) (jV L) q1)
        ∗ Todo d (cV L) (jV L) (base0 L) (base0 L + 65536) ∗ Ow d (cV L) (jV L) O W)
      ⊢ wp frame (wpE (defs₀ (F := F)) 𝒱₀ (V d (cV L) (jV L)) none) Set.univ
          (cc0_gather_kernel L tblV (Memref.isWhole_whole _) idsV (Memref.isWhole_whole _) outV (Memref.isWhole_whole _) idxV (Memref.isWhole_whole _)
            rowV (Memref.isWhole_whole _) cc0_scratch2 cc0_scratch3 cc0_scoped0 cc0_scoped1 cc0_scoped2)
          fun _ => iprop(Fin0 FT FI d L r0 r1 q0 q1 ∗ Zero d (cV L) (jV L) cc0_scoped0.sem ∗ Ow d (cV L) (jV L) O W) := by
  rw [cc0_gather_kernel_eq_skeleton]
  unfold cc0_gather_kernel_skel
  simp only [k0_part3_eq_skeleton, k0_part3_skel, wp_bind, wp_pure]
  iintro ⟨#Hmw, ⟨Fidx0, Fidx1, Frow0, Frow1⟩, ⟨Zg0, Zg1, Zi0, Zi1, Zs1, Zs2⟩, Zs0, ⟨Hr0, Hr1, Hq0, Hq1⟩, Htodo, HO⟩
  iapply (wp_fetch FI d (cV L) (jV L) (k0_off1 L) (k0_off1_inb L) 0 inb_S2x1024_S1x1024_0_0 cc0_scoped0.sem (p := base0 L) (by rw [k0_off1_eq]; rfl)) $$ [Hr0 Fidx0 Zs0]
  · isplitl [Hr0]; · iexact Hr0
    isplitl [Fidx0] <;> iassumption
  iintro Hf0
  iapply (wp_wait d (cV L) (jV L) (idsC (k0_off1 L) (k0_off1_inb L)) idx0 cc0_scoped0.sem rfl) $$ [Hf0 HO]
  · isplitr; · iexact Hmw
    isplitl [Hf0] <;> iassumption
  iintro ⟨⟨Hidx0, Hr0⟩, Zs0, HO⟩
  iapply (wp_rows FT FI d (cV L) (jV L) 0 inb_S2x1024x16_S1x1024x16_0_0_0 0 inb_S2x1024_S1x1024_0_0 gsem0 hin) $$ [Hq0 Frow0 Hidx0 Zg0]
  · isplitl [Hq0]; · iexact Hq0
    isplitl [Frow0]; · iexact Frow0
    isplitl [Hidx0] <;> iassumption
  iintro Hg0
  iapply (wp_fetch FI d (cV L) (jV L) (k0_off2 L) (k0_off2_inb L) 1 inb_S2x1024_S1x1024_1_0 isem1 (p := base0 L + 1024) (by rw [k0_off2_eq]; rfl)) $$ [Hr1 Fidx1 Zi1]
  · isplitl [Hr1]; · iexact Hr1
    isplitl [Fidx1] <;> iassumption
  iintro Hf1
  imodintro
  ihave Hd0 := (done_nil FT FI d (cV L) (jV L) (base0 L)) $$ []
  · iempintro
  iapply (Scf.wp_for (I := fun t _ => Inv0 FT FI d L r0 r1 q0 q1 O W t) (hbody := ?_))
  · intro t acc
    have ht : t.val < 32 := lt_of_lt_of_eq t.isLt trips_0
    unfold Inv0
    rw [if_pos ht]
    by_cases h : t.val < 31
    · rw [if_pos (by omega)]
      iintro ⟨#Hmw, Hm, HO⟩
      ihave Hwp := (trip0 FT FI d L r0 r1 q0 q1 hin O W _ _ t h) $$ [Hm HO]
      · isplitr; · iexact Hmw
        isplitl [Hm] <;> iassumption
      iapply (wp_wand frame _ Set.univ) $$ Hwp
      iintro %_ ⟨Hm, HO⟩
      isplitr; · iexact Hmw
      isplitl [Hm] <;> iassumption
    · rw [if_neg (by omega)]
      iintro ⟨#Hmw, Hm, HO⟩
      ihave Hwp := (lastTrip0 FT FI d L r0 r1 q0 q1 hin O W _ _ t (by omega)) $$ [Hm HO]
      · isplitr; · iexact Hmw
        isplitl [Hm] <;> iassumption
      iapply (wp_wand frame _ Set.univ) $$ Hwp
      iintro %_ ⟨Hm, HO⟩
      isplitr; · iexact Hmw
      isplitl [Hm] <;> iassumption
  isplitl [Hg0 Hf1 Zi0 Hr0 Zg1 Hq1 Frow1 Zs1 Zs2 Hd0 Htodo HO]
  · unfold Inv0 Mid
    rw [if_pos (by omega)]
    isplitr; · iexact Hmw
    isplitr [HO]; swap; · iexact HO
    isplitl [Hg0]; · iexact Hg0
    isplitl [Hf1]; · iexact Hf1
    isplitl [Zi0]; · iexact Zi0
    isplitl [Hr0]; · iexact Hr0
    isplitl [Zg1]; · iexact Zg1
    isplitl [Hq1]; · iexact Hq1
    isplitl [Frow1]; · iexact Frow1
    isplitl [Zs1]; · iexact Zs1
    isplitl [Zs2]; · iexact Zs2
    isplitl [Hd0]; · iexact Hd0
    iexact Htodo
  · iintro %_ HI
    imodintro
    ihave HI' := (Entails.of_eq (show (Inv0 FT FI d L r0 r1 q0 q1 O W k0_t1_loop.trips : sProp 𝕄)
        = iprop(Transfers.MayWaits (V d (cV L) (jV L)) (default : HIx 2) O ∗ Fin0 FT FI d L r0 r1 q0 q1 ∗ Ow d (cV L) (jV L) O W) from by
      unfold Inv0; rw [if_neg (by rw [trips_0]; omega)])) $$ HI
    icases HI' with ⟨-, HF, HO⟩
    isplitl [HF]; · iexact HF
    isplitl [Zs0] <;> iassumption

end Body

end Cert.Proof.Lookup

end
-- ==== Proof.PackViews.lean ====
/-
  The views of the packing call: a chunk of 128-wide rows, a chunk of 32-wide output rows, one slot of either scratch
  buffer — what each reads and which elements it names — and the packing of 128-wide rows into 32-wide ones.
-/
module

public import proofs.«01_k».proof.Proof.Views

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

/-- The gathered rows, seen 128 wide. -/
abbrev wideV : Memref sig .scVector .hbm S262144x128 .f32 := Memref.whole main_v11_scv
/-- The packed rows. -/
abbrev resV : Memref sig .scVector .hbm S1048576x32 .f32 := Memref.whole main_v12_scv
/-- A subcore's two slots of 128-wide rows. -/
abbrev inV : Memref sig .scVector .vmem S2x64x128 .f32 := Memref.whole cc1_scratch0
/-- A subcore's two slots of 32-wide rows. -/
abbrev pkV : Memref sig .scVector .vmem S2x256x32 .f32 := Memref.whole cc1_scratch1

/-- The 64 wide rows from `off`. -/
abbrev wideC (off : Fin 2 → ℕ) (h : ∀ a, off a + S64x128.size a ≤ S262144x128.size a) : Memref sig .scVector .hbm S64x128 .f32 :=
  wideV.slice (Rect.unit (s := S262144x128) off S64x128.size h) (fun _ => rfl)
/-- The 256 packed rows from `off`. -/
abbrev resC (off : Fin 2 → ℕ) (h : ∀ a, off a + S256x32.size a ≤ S1048576x32.size a) : Memref sig .scVector .hbm S256x32 .f32 :=
  resV.slice (Rect.unit (s := S1048576x32) off S256x32.size h) (fun _ => rfl)
/-- Slot `b` of wide rows. -/
abbrev inS (b : ℕ) (h : ∀ a, (![b, 0, 0] : Fin 3 → ℕ) a + S1x64x128.size a ≤ S2x64x128.size a) : Memref sig .scVector .vmem S64x128 .f32 :=
  (inV.slice (Rect.unit (s := S2x64x128) ![b, 0, 0] S1x64x128.size h) (fun _ => rfl)).squeeze S64x128 squeezes_S1x64x128_S64x128
/-- Slot `b` of packed rows. -/
abbrev pkS (b : ℕ) (h : ∀ a, (![b, 0, 0] : Fin 3 → ℕ) a + S1x256x32.size a ≤ S2x256x32.size a) : Memref sig .scVector .vmem S256x32 .f32 :=
  (pkV.slice (Rect.unit (s := S2x256x32) ![b, 0, 0] S1x256x32.size h) (fun _ => rfl)).squeeze S256x32 squeezes_S1x256x32_S256x32

/-- A chunk of wide rows reads the rows from its offset on. -/
theorem read_wideC (off : Fin 2 → ℕ) (h : ∀ a, off a + S64x128.size a ≤ S262144x128.size a) (h1 : off 1 = 0) (f : S262144x128.Idx → Elt F .f32) :
    (wideC off h).view.read (Elt F) f = fun x => rd2 f (off 0 + (x 0).val) (x 1) := by
  funext x
  refine ((View.read_apply _ _).trans (cast_eq _ _)).trans (rd2_val f _ ?_ ?_).symm
  · show off 0 + 1 * (x 0).val = _
    omega
  · show off 1 + 1 * (x 1).val = _
    omega

/-- A chunk of packed rows reads the rows from its offset on. -/
theorem read_resC (off : Fin 2 → ℕ) (h : ∀ a, off a + S256x32.size a ≤ S1048576x32.size a) (h1 : off 1 = 0) (f : S1048576x32.Idx → Elt F .f32) :
    (resC off h).view.read (Elt F) f = fun x => rd2 f (off 0 + (x 0).val) (x 1) := by
  funext x
  refine ((View.read_apply _ _).trans (cast_eq _ _)).trans (rd2_val f _ ?_ ?_).symm
  · show off 0 + 1 * (x 0).val = _
    omega
  · show off 1 + 1 * (x 1).val = _
    omega

/-- A chunk of packed rows is 256 whole rows. -/
theorem set_resC (off : Fin 2 → ℕ) (h : ∀ a, off a + S256x32.size a ≤ S1048576x32.size a) (h1 : off 1 = 0) {a b : ℕ} (h0 : off 0 = a) (hb : a + 256 = b) :
    (resC off h).view.set = rowsIn (n := 1048576) (m := 32) a b := by
  show ((View.whole (main_v12_scv : Ref sig .scVector)).slice _).set = _
  rw [View.set_slice_whole]
  exact unit_rowsIn h0 hb h1 rfl

/-- Slot `b` of wide rows is the elements of first coordinate `b`. -/
theorem mem_inS (b : ℕ) (h : ∀ a, (![b, 0, 0] : Fin 3 → ℕ) a + S1x64x128.size a ≤ S2x64x128.size a) (i : S2x64x128.Idx) : i ∈ (inS b h).view.set ↔ (i 0).val = b := by
  show i ∈ (((View.whole (cc1_scratch0 : Ref sig .scVector)).slice (Rect.unit (s := S2x64x128) ![b, 0, 0] S1x64x128.size h)).reshape S64x128 squeezes_S1x64x128_S64x128.numel_eq).set ↔ _
  rw [View.set_reshape, View.set_slice_whole, Rect.mem_set_unit]
  constructor
  · intro h; have := h 0; simp at this; omega
  · intro h a
    match a with
    | 0 => simp; omega
    | 1 => simpa using (i 1).isLt
    | 2 => simpa using (i 2).isLt

/-- Slot `b` of packed rows is the elements of first coordinate `b`. -/
theorem mem_pkS (b : ℕ) (h : ∀ a, (![b, 0, 0] : Fin 3 → ℕ) a + S1x256x32.size a ≤ S2x256x32.size a) (i : S2x256x32.Idx) : i ∈ (pkS b h).view.set ↔ (i 0).val = b := by
  show i ∈ (((View.whole (cc1_scratch1 : Ref sig .scVector)).slice (Rect.unit (s := S2x256x32) ![b, 0, 0] S1x256x32.size h)).reshape S256x32 squeezes_S1x256x32_S256x32.numel_eq).set ↔ _
  rw [View.set_reshape, View.set_slice_whole, Rect.mem_set_unit]
  constructor
  · intro h; have := h 0; simp at this; omega
  · intro h a
    match a with
    | 0 => simp; omega
    | 1 => simpa using (i 1).isLt
    | 2 => simpa using (i 2).isLt

/-! ## Slots by element number -/

/-- Element `k` of slot `b` of wide rows, in row-major order. -/
def inAt (f : S2x64x128.Idx → Elt F .f32) (b k : ℕ) : Elt F .f32 := f (ix3 (Fin.ofNat 2 b) (Fin.ofNat 64 (k / 128)) (Fin.ofNat 128 k))

/-- Element `k` of slot `b` of packed rows, in row-major order. -/
def pkAt (g : S2x256x32.Idx → Elt F .f32) (b k : ℕ) : Elt F .f32 := g (ix3 (Fin.ofNat 2 b) (Fin.ofNat 256 (k / 32)) (Fin.ofNat 32 k))

/-- An element of the wide slots is the one with its slot and its number in row-major order. -/
theorem inAt_val (f : S2x64x128.Idx → Elt F .f32) {b k : ℕ} (x : S2x64x128.Idx) (h0 : (x 0).val = b) (h : 128 * (x 1).val + (x 2).val = k) : inAt f b k = f x := by
  unfold inAt
  rw [eq_ix3 x]
  have b0 : (x 0).val < 2 := (x 0).isLt
  have b1 : (x 1).val < 64 := (x 1).isLt
  have b2 : (x 2).val < 128 := (x 2).isLt
  have e0 : (Fin.ofNat 2 b : Fin 2) = x 0 := Fin.ext (by show b % 2 = _; omega)
  have e1 : (Fin.ofNat 64 (k / 128) : Fin 64) = x 1 := Fin.ext (by show k / 128 % 64 = _; omega)
  have e2 : (Fin.ofNat 128 k : Fin 128) = x 2 := Fin.ext (by show k % 128 = _; omega)
  rw [e0, e1, e2]
  rfl

/-- An element of the packed slots is the one with its slot and its number in row-major order. -/
theorem pkAt_val (g : S2x256x32.Idx → Elt F .f32) {b k : ℕ} (x : S2x256x32.Idx) (h0 : (x 0).val = b) (h : 32 * (x 1).val + (x 2).val = k) : pkAt g b k = g x := by
  unfold pkAt
  rw [eq_ix3 x]
  have b0 : (x 0).val < 2 := (x 0).isLt
  have b1 : (x 1).val < 256 := (x 1).isLt
  have b2 : (x 2).val < 32 := (x 2).isLt
  have e0 : (Fin.ofNat 2 b : Fin 2) = x 0 := Fin.ext (by show b % 2 = _; omega)
  have e1 : (Fin.ofNat 256 (k / 32) : Fin 256) = x 1 := Fin.ext (by show k / 32 % 256 = _; omega)
  have e2 : (Fin.ofNat 32 k : Fin 32) = x 2 := Fin.ext (by show k % 32 = _; omega)
  rw [e0, e1, e2]
  rfl

/-- A slot of wide rows reads its elements by number. -/
theorem read_inS (b : ℕ) (h : ∀ a, (![b, 0, 0] : Fin 3 → ℕ) a + S1x64x128.size a ≤ S2x64x128.size a) (f : S2x64x128.Idx → Elt F .f32) :
    (inS b h).view.read (Elt F) f = fun x => inAt f b (128 * (x 0).val + (x 1).val) := by
  funext x
  obtain ⟨r, l, rfl⟩ : ∃ (r : Fin 64) (l : Fin 128), x = ix2 r l := ⟨x 0, x 1, eq_ix2 x⟩
  refine ((View.read_apply _ _).trans (cast_eq _ _)).trans ?_
  show f ((Rect.unit (s := S2x64x128) ![b, 0, 0] S1x64x128.size h).emb (Shape.reshapeEquiv _ (ix2 r l))) = _
  rw [reshapeEquiv_ix2_1ab]
  refine (inAt_val f _ ?_ ?_).symm
  · show b + 1 * 0 = b
    omega
  · show 128 * (0 + 1 * r.val) + (0 + 1 * l.val) = 128 * r.val + l.val
    omega

/-- A slot of packed rows reads its elements by number. -/
theorem read_pkS (b : ℕ) (h : ∀ a, (![b, 0, 0] : Fin 3 → ℕ) a + S1x256x32.size a ≤ S2x256x32.size a) (g : S2x256x32.Idx → Elt F .f32) :
    (pkS b h).view.read (Elt F) g = fun x => pkAt g b (32 * (x 0).val + (x 1).val) := by
  funext x
  obtain ⟨r, l, rfl⟩ : ∃ (r : Fin 256) (l : Fin 32), x = ix2 r l := ⟨x 0, x 1, eq_ix2 x⟩
  refine ((View.read_apply _ _).trans (cast_eq _ _)).trans ?_
  show g ((Rect.unit (s := S2x256x32) ![b, 0, 0] S1x256x32.size h).emb (Shape.reshapeEquiv _ (ix2 r l))) = _
  rw [reshapeEquiv_ix2_1ab]
  refine (pkAt_val g _ ?_ ?_).symm
  · show b + 1 * 0 = b
    omega
  · show 32 * (0 + 1 * r.val) + (0 + 1 * l.val) = 32 * r.val + l.val
    omega

/-! ## Packing -/

/-- The packed array: the elements of the wide rows in order, 32 to a row. -/
def pack (FY : S262144x128.Idx → Elt F .f32) : S1048576x32.Idx → Elt F .f32 :=
  fun x => rd2 FY ((32 * (x 0).val + (x 1).val) / 128) (Fin.ofNat 128 (32 * (x 0).val + (x 1).val))

/-- The 64 wide rows from `p` on. -/
def wideAt (FY : S262144x128.Idx → Elt F .f32) (p : ℕ) : S64x128.Idx → Elt F .f32 := fun x => rd2 FY (p + (x 0).val) (x 1)

/-- The 256 packed rows from `p` on. -/
def resAt (FY : S262144x128.Idx → Elt F .f32) (p : ℕ) : S256x32.Idx → Elt F .f32 := fun x => rd2 (pack FY) (p + (x 0).val) (x 1)

/-- The first `n` elements of slot `b` have been copied. -/
def Upto (f : S2x64x128.Idx → Elt F .f32) (g : S2x256x32.Idx → Elt F .f32) (b n : ℕ) : Prop := ∀ k < n, pkAt g b k = inAt f b k

/-- A slot whose elements have all been copied holds the packed rows of the wide rows copied from. -/
theorem upto_pack (FY : S262144x128.Idx → Elt F .f32) (b p : ℕ) (hi : ∀ a, (![b, 0, 0] : Fin 3 → ℕ) a + S1x64x128.size a ≤ S2x64x128.size a)
    (ho : ∀ a, (![b, 0, 0] : Fin 3 → ℕ) a + S1x256x32.size a ≤ S2x256x32.size a) (f : S2x64x128.Idx → Elt F .f32) (g : S2x256x32.Idx → Elt F .f32)
    (h : Upto f g b 8192) (hf : (inS b hi).view.read (Elt F) f = wideAt FY p) : (pkS b ho).view.read (Elt F) g = resAt FY (4 * p) := by
  rw [read_pkS]
  funext x
  have b0 := idx2_lt0 (n0 := 256) (n1 := 32) x
  have b1 := idx2_lt1 (n0 := 256) (n1 := 32) x
  rw [h _ (by omega)]
  have e := congrFun hf (ix2 (n0 := 64) (n1 := 128) (Fin.ofNat 64 ((32 * (x 0).val + (x 1).val) / 128)) (Fin.ofNat 128 (32 * (x 0).val + (x 1).val)))
  rw [read_inS] at e
  have e' : inAt f b (32 * (x 0).val + (x 1).val) = _ := (congrArg (inAt f b) (show 32 * (x 0).val + (x 1).val
    = 128 * ((32 * (x 0).val + (x 1).val) / 128 % 64) + (32 * (x 0).val + (x 1).val) % 128 from by omega)).trans e
  rw [e']
  show FY (ix2 (Fin.ofNat 262144 _) (Fin.ofNat 128 _)) = FY (ix2 (Fin.ofNat 262144 _) (Fin.ofNat 128 _))
  refine congrArg FY (congrArg₂ ix2 (Fin.ext ?_) (Fin.ext ?_))
  · show (p + (32 * (x 0).val + (x 1).val) / 128 % 64) % 262144 = ((32 * ((4 * p + (x 0).val) % 1048576) + (x 1).val) / 128) % 262144
    omega
  · show (32 * (x 0).val + (x 1).val) % 128 = (32 * ((4 * p + (x 0).val) % 1048576) + (x 1).val) % 128
    omega

end Cert.Proof.Lookup

end
-- ==== Proof.PackSteps.lean ====
/-
  The packing call's steps on one subcore, each with its value: a chunk of wide rows read in, sixteen lanes loaded from
  it, sixteen lanes stored among the packed rows, a chunk of packed rows written out.
-/
module

public import proofs.«01_k».proof.Proof.PackViews

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig (HIx 2) (Elt F) ℕ UU ℕ

variable (FY : S262144x128.Idx → Elt F .f32)

section Steps

variable (d : Dev nD) (c : Fin τ.nSC) (i : Fin τ.nSub)

/-- The wide rows, at a share. -/
def Wide (q : PosShare TreeShare) : sProp 𝕄 := iprop(wideV.view.loc (V d c i) ↦{q} FY)

/-- Output rows `[a, b)`, packed. -/
def Packed (a b : ℕ) : sProp 𝕄 := iprop(resV.view.loc (V d c i) ↦[rowsIn (n := 1048576) (m := 32) a b]{fullShare} pack FY)

/-- Output rows `[a, b)`, at some contents. -/
def Rest (a b : ℕ) : sProp 𝕄 :=
  iprop(∃ f : Buf (Elt F) (resV.view.loc (V d c i)), resV.view.loc (V d c i) ↦[rowsIn (n := 1048576) (m := 32) a b]{fullShare} f)

/-- The output rows of `[a, e)` are those of `[a, b)` and those of `[b, e)`. -/
theorem rest_split {a b e : ℕ} (h : a ≤ b) (h' : b ≤ e) : (Rest d c i a e : sProp 𝕄) ⊢ iprop(Rest d c i a b ∗ Rest d c i b e) := by
  unfold Rest
  iintro ⟨%f, H⟩
  ihave H' := (Entails.of_eq (show (resV.view.loc (V d c i) ↦[rowsIn (n := 1048576) (m := 32) a e]{fullShare} f : sProp 𝕄) = _ from by
    rw [← rowsIn_union h h', pts_union (rowsIn_disjoint le_rfl)])) $$ H
  icases H' with ⟨H1, H2⟩
  isplitl [H1]
  · iexists f; iexact H1
  · iexists f; iexact H2

/-- Packed rows join. -/
theorem packed_join {a b e : ℕ} (h : a ≤ b) (h' : b ≤ e) : iprop(Packed FY d c i a b ∗ Packed FY d c i b e) ⊢ (Packed FY d c i a e : sProp 𝕄) := by
  unfold Packed
  exact Entails.of_eq (by rw [← rowsIn_union h h', pts_union (rowsIn_disjoint le_rfl)])

/-- No rows packed yet. -/
theorem packed_nil (a : ℕ) : (emp : sProp 𝕄) ⊢ Packed FY d c i a a := by
  unfold Packed
  rw [rowsIn_empty le_rfl]
  exact Entails.of_eq pointsTo_empty.symm

/-- Slot `b` of wide rows, at `f`. -/
def InAt (f : S2x64x128.Idx → Elt F .f32) (b : ℕ) (h : ∀ a, (![b, 0, 0] : Fin 3 → ℕ) a + S1x64x128.size a ≤ S2x64x128.size a) : sProp 𝕄 :=
  iprop(inV.view.loc (V d c i) ↦[(inS b h).view.set]{fullShare} f)

/-- Slot `b` of packed rows, its first `n` elements copied from `f`. -/
def OutUpto (f : S2x64x128.Idx → Elt F .f32) (b : ℕ) (h : ∀ a, (![b, 0, 0] : Fin 3 → ℕ) a + S1x256x32.size a ≤ S2x256x32.size a) (n : ℕ) : sProp 𝕄 :=
  iprop(∃ g : Buf (Elt F) (pkV.view.loc (V d c i)), ⌜Upto f g b n⌝ ∗ (pkV.view.loc (V d c i) ↦[(pkS b h).view.set]{fullShare} g))

/-- Sixteen elements of slot `b` of wide rows, from element `k` on. -/
def lanes (f : S2x64x128.Idx → Elt F .f32) (b k : ℕ) : S1x1x16.Idx → Elt F .f32 := fun x => inAt f b (k + (x 2).val)

/-- A free slot of packed rows has no elements copied. -/
theorem free_out (f : S2x64x128.Idx → Elt F .f32) (b : ℕ) (h : ∀ a, (![b, 0, 0] : Fin 3 → ℕ) a + S1x256x32.size a ≤ S2x256x32.size a) :
    (Free d c i (pkS b h) : sProp 𝕄) ⊢ OutUpto d c i f b h 0 := by
  unfold Free OutUpto
  iintro ⟨%g, H⟩
  iexists g
  isplitr
  · ipureintro; intro k hk; omega
  iexact H

/-- A slot all of whose elements have been copied from a slot reading 64 wide rows holds their packed rows. -/
theorem out_has (f : S2x64x128.Idx → Elt F .f32) (b p : ℕ) (hi : ∀ a, (![b, 0, 0] : Fin 3 → ℕ) a + S1x64x128.size a ≤ S2x64x128.size a)
    (h : ∀ a, (![b, 0, 0] : Fin 3 → ℕ) a + S1x256x32.size a ≤ S2x256x32.size a) (hf : (inS b hi).view.read (Elt F) f = wideAt FY p) :
    (OutUpto d c i f b h 8192 : sProp 𝕄) ⊢ Has d c i (pkS b h) (resAt FY (4 * p)) := by
  unfold Has OutUpto
  iintro ⟨%g, %hg, H⟩
  iexists g
  isplitr
  · ipureintro; exact upto_pack FY b p hi h f g hg hf
  iexact H

variable [FloatOps F]

/-- The read of a chunk of wide rows into a slot. -/
theorem wp_read (off : Fin 2 → ℕ) (h : ∀ a, off a + S64x128.size a ≤ S262144x128.size a) (b : ℕ) (hb : ∀ a, (![b, 0, 0] : Fin 3 → ℕ) a + S1x64x128.size a ≤ S2x64x128.size a)
    (sem : DmaSem sig) {hsrc : (wideC off h).view.WordExact} {hdst : (inS b hb).view.WordExact}
    {hsem : DmaTarget.Typed (nD := nD) .hbm (.dma sem) (DmaTarget.here (p := Proc.scVector c i) (inS b hb))}
    {q : PosShare TreeShare} {p : ℕ} (hp : off 0 = p) (h1 : off 1 = 0) {Ψ : PUnit → sProp 𝕄} :
    iprop(Wide FY d c i q ∗ Free d c i (inS b hb) ∗ Zero d c i sem)
      ⊢ iprop((Fl d c i sem (inS b hb).view.dmaCredit iprop(Has d c i (inS b hb) (wideAt FY p) ∗ Wide FY d c i q) -∗ Ψ ⟨⟩)
          -∗ wp frame (wpE (defs₀ (F := F)) 𝒱₀ (V d c i) none) Set.univ
              (Prog.lift (.enqueueDma (wideC off h) (DmaTarget.here (p := Proc.scVector c i) (inS b hb)) (.dma sem) hsrc hdst hsem)) Ψ) := by
  subst hp
  have e : (wideC off h).view.read (Elt F) FY = wideAt FY (off 0) := read_wideC off h h1 FY
  have := wp_issue d c i (wideC off h) (inS b hb) sem (hsrc := hsrc) (hdst := hdst) (hsem := hsem) (q := q) (fs := FY)
    (Se := Finset.univ) (Finset.subset_univ _) (by decide) (Ψ := Ψ)
  rw [e] at this
  exact this

/-- The write-out of a slot of packed rows. -/
theorem wp_write (b : ℕ) (hb : ∀ a, (![b, 0, 0] : Fin 3 → ℕ) a + S1x256x32.size a ≤ S2x256x32.size a)
    (off : Fin 2 → ℕ) (h : ∀ a, off a + S256x32.size a ≤ S1048576x32.size a) (sem : DmaSem sig)
    {hsrc : (pkS b hb).view.WordExact} {hdst : (resC off h).view.WordExact} {hsem : DmaTarget.Typed (nD := nD) .vmem (.dma sem) (DmaTarget.here (p := Proc.scVector c i) (resC off h))}
    {p p' : ℕ} (hp : off 0 = p) (h1 : off 1 = 0) (hp' : p + 256 = p') {Ψ : PUnit → sProp 𝕄} :
    iprop(Has d c i (pkS b hb) (resAt FY p) ∗ Rest d c i p p' ∗ Zero d c i sem)
      ⊢ iprop((Fl d c i sem (resC off h).view.dmaCredit iprop(Packed FY d c i p p' ∗ Free d c i (pkS b hb)) -∗ Ψ ⟨⟩)
          -∗ wp frame (wpE (defs₀ (F := F)) 𝒱₀ (V d c i) none) Set.univ
              (Prog.lift (.enqueueDma (pkS b hb) (DmaTarget.here (p := Proc.scVector c i) (resC off h)) (.dma sem) hsrc hdst hsem)) Ψ) := by
  have hset : (resC off h).view.set = rowsIn (n := 1048576) (m := 32) p p' := set_resC off h h1 hp hp'
  have hread : (resC off h).view.read (Elt F) (pack FY) = resAt FY p := by rw [read_resC off h h1, hp]; rfl
  have e1 : (Free d c i (resC off h) : sProp 𝕄) = Rest d c i p p' := by unfold Free Rest; rw [hset]
  have e2 : (Has d c i (resC off h) (resAt FY p) : sProp 𝕄) ⊢ Packed FY d c i p p' := by
    unfold Packed; rw [← hset]; exact has_pts d c i (resC off h) _ (pack FY) hread
  iintro ⟨H1, H2, H3⟩ Hk
  iapply (wp_issueHas d c i (pkS b hb) (resC off h) sem (resAt FY p) (by decide)) $$ [H1 H2 H3]
  · isplitl [H1]; · iexact H1
    isplitl [H2]; · rw [e1]; iexact H2
    iexact H3
  iintro Hfl
  iapply Hk
  iapply (fl_mono (F := F) d c i ?_) $$ Hfl
  iintro ⟨H1, H2⟩
  isplitl [H1]; · iapply e2 $$ H1
  iexact H2

/-- The load of sixteen lanes of a wide row. -/
theorem wp_ld (f : S2x64x128.Idx → Elt F .f32) (b : ℕ) (hb : ∀ a, (![b, 0, 0] : Fin 3 → ℕ) a + S1x64x128.size a ≤ S2x64x128.size a)
    (off : Fin 3 → ℕ) (h : ∀ a, off a + S1x1x16.size a ≤ S2x64x128.size a) {u o k : ℕ} (ho : off = ![b, u, o]) (hk : 128 * u + o = k)
    {hl : inV.view.LoadsAt (Rect.unit (s := S2x64x128) off S1x1x16.size h).toLoadRect} {Ψ : (S1x1x16.Idx → Elt F .f32) → sProp 𝕄} :
    (InAt d c i f b hb : sProp 𝕄)
      ⊢ iprop((InAt d c i f b hb -∗ Ψ (lanes f b k))
          -∗ wp frame (wpE (defs₀ (F := F)) 𝒱₀ (V d c i) none) Set.univ
              (Prog.lift (.load inV (Rect.unit (s := S2x64x128) off S1x1x16.size h).toLoadRect hl)) Ψ) := by
  subst ho
  have hS : (inV.access (Rect.unit (s := S2x64x128) ![b, u, o] S1x1x16.size h)).set ⊆ (inS b hb).view.set := by
    intro j hj
    rw [mem_inS]
    have hj : j ∈ ((View.whole (cc1_scratch0 : Ref sig .scVector)).slice (Rect.unit (s := S2x64x128) ![b, u, o] S1x1x16.size h)).set := hj
    rw [View.set_slice_whole, Rect.mem_set_unit] at hj
    have := hj 0
    simp at this
    omega
  have hv : (inV.access (Rect.unit (s := S2x64x128) ![b, u, o] S1x1x16.size h)).read (Elt F) f = lanes f b k := by
    funext x
    refine ((View.read_apply _ _).trans (cast_eq _ _)).trans (inAt_val f _ ?_ ?_).symm
    · show b + 1 * (x 0).val = b
      have : (x 0).val < 1 := (x 0).isLt
      omega
    · show 128 * (u + 1 * (x 1).val) + (o + 1 * (x 2).val) = k + (x 2).val
      have : (x 1).val < 1 := (x 1).isLt
      omega
  unfold InAt
  iintro H Hk
  iapply (wp_load_rect 𝒱₀ (V d c i) none Set.univ (k := fun x => Prog.ret x) hS) $$ H
  iintro H
  rw [wp_ret, hv]
  imodintro
  iapply Hk
  iexact H

/-- The store of sixteen lanes among the packed rows, after the load of what they replace. -/
theorem wp_st (f : S2x64x128.Idx → Elt F .f32) (b : ℕ) (hb : ∀ a, (![b, 0, 0] : Fin 3 → ℕ) a + S1x256x32.size a ≤ S2x256x32.size a)
    (off : Fin 3 → ℕ) (h : ∀ a, off a + S1x1x16.size a ≤ S2x256x32.size a) {u o k k' : ℕ} (ho : off = ![b, u, o]) (hk : 32 * u + o = k) (hk' : k + 16 = k')
    {w : S1x1x16.Idx → Elt F .f32} (hw : w = lanes f b k) (hlim : k + 16 ≤ 8192 ∧ o + 16 ≤ 32)
    {hl : pkV.view.LoadsAt (Rect.unit (s := S2x256x32) off S1x1x16.size h).toLoadRect}
    {hx : (pkV.access (Rect.unit (s := S2x256x32) off S1x1x16.size h)).Stores Finset.univ} {hm : (Finset.univ : Finset S1x1x16.Idx) = Finset.univ ∨ ∀ a, (Rect.unit (s := S2x256x32) off S1x1x16.size h).stride a = 1}
    {Ψ : PUnit → sProp 𝕄} :
    (OutUpto d c i f b hb k : sProp 𝕄)
      ⊢ iprop((OutUpto d c i f b hb k' -∗ Ψ ⟨⟩)
          -∗ wp frame (wpE (defs₀ (F := F)) 𝒱₀ (V d c i) none) Set.univ
              (Prog.lift (.load pkV (Rect.unit (s := S2x256x32) off S1x1x16.size h).toLoadRect hl))
              (fun _ => wp frame (wpE (defs₀ (F := F)) 𝒱₀ (V d c i) none) Set.univ
                (Prog.lift (.store pkV (Rect.unit (s := S2x256x32) off S1x1x16.size h) w Finset.univ hx hm)) Ψ)) := by
  subst ho hk' hw
  have hS : (pkV.access (Rect.unit (s := S2x256x32) ![b, u, o] S1x1x16.size h)).set ⊆ (pkS b hb).view.set := by
    intro j hj
    rw [mem_pkS]
    have hj : j ∈ ((View.whole (cc1_scratch1 : Ref sig .scVector)).slice (Rect.unit (s := S2x256x32) ![b, u, o] S1x1x16.size h)).set := hj
    rw [View.set_slice_whole, Rect.mem_set_unit] at hj
    have := hj 0
    simp at this
    omega
  have hb2 : b < 2 := by have := hb 0; simp at this; omega
  have hup : ∀ g : S2x256x32.Idx → Elt F .f32, Upto f g b k →
      Upto f ((pkV.access (Rect.unit (s := S2x256x32) ![b, u, o] S1x1x16.size h)).write (Elt F) g (lanes f b k) Finset.univ) b (k + 16) := by
    intro g hg n hn
    by_cases hlt : n < k
    · rw [← hg n hlt]
      refine View.write_of_not_mem _ _ _ ?_
      intro hj
      have hj : _ ∈ ((View.whole (cc1_scratch1 : Ref sig .scVector)).slice (Rect.unit (s := S2x256x32) ![b, u, o] S1x1x16.size h)).set := hj
      rw [View.set_slice_whole, Rect.mem_set_unit] at hj
      have h1 := (hj 1).1
      have h2 := (hj 2).1
      have h1 : u ≤ n / 32 % 256 := h1
      have h2 : o ≤ n % 32 := h2
      omega
    · have e := View.write_emb_of_mem (v := pkV.access (Rect.unit (s := S2x256x32) ![b, u, o] S1x1x16.size h)) (Val := Elt F) g (lanes f b k) (M := Finset.univ)
        (x := ix3 (0 : Fin 1) (0 : Fin 1) (⟨n - k, by omega⟩ : Fin 16)) (Finset.mem_univ _)
      refine ((pkAt_val _ _ ?_ ?_).trans (e.trans (cast_eq _ _))).trans ?_
      · show b + 1 * 0 = b
        omega
      · show 32 * (u + 1 * 0) + (o + 1 * (n - k)) = n
        omega
      · show inAt f b (k + (n - k)) = inAt f b n
        rw [Nat.add_sub_cancel' (by omega)]
  unfold OutUpto
  iintro ⟨%g, %hg, H⟩ Hk
  iapply (wp_load_rect 𝒱₀ (V d c i) none Set.univ (k := fun x => Prog.ret x) hS) $$ H
  iintro H
  rw [wp_ret]
  imodintro
  iapply (wp_store 𝒱₀ (V d c i) none Set.univ (k := fun x => Prog.ret x) hS) $$ H
  iintro H
  rw [wp_ret]
  imodintro
  iapply Hk
  iexists _
  isplitr; swap; · iexact H
  ipureintro
  exact hup g hg

end Steps

end Cert.Proof.Lookup

end
-- ==== Proof.PackLoop.lean ====
/-
  The packing call's two inner loops on one subcore: 64 trips, one wide row a trip, sixteen lanes at a time.
-/
module

public import proofs.«01_k».proof.Proof.PackSteps

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig (HIx 2) (Elt F) ℕ UU ℕ

/-- Slot 0 of the wide rows. -/
abbrev in0 := inS 0 inb_S2x64x128_S1x64x128_0_0_0
/-- Slot 1 of the wide rows. -/
abbrev in1 := inS 1 inb_S2x64x128_S1x64x128_1_0_0
/-- Slot 0 of the packed rows. -/
abbrev pk0 := pkS 0 inb_S2x256x32_S1x256x32_0_0_0
/-- Slot 1 of the packed rows. -/
abbrev pk1 := pkS 1 inb_S2x256x32_S1x256x32_1_0_0

/-- The subcore a task of the packing runs on. -/
abbrev cW (L : grid1.Coords) : Fin τ.nSC := (L 0).castLE hcore1
/-- The number of that subcore in its SparseCore. -/
abbrev jW (L : grid1.Coords) : Fin τ.nSub := (L 1).castLE hsub1

variable [FloatOps F] (d : Dev nD) (L : grid1.Coords) (f : S2x64x128.Idx → Elt F .f32)

/-- The copying loop over slot 0 makes a trip for each of its sixty-four wide rows. -/
theorem trips_in0 : k1_t2_loop.trips = 64 := by decide +kernel

/-- So does the one over slot 1. -/
theorem trips_in1 : k1_t3_loop.trips = 64 := by decide +kernel

set_option maxHeartbeats 4000000 in
/-- One trip of slot 0's loop copies one wide row, as four packed rows. -/
theorem rowTrip0 (v2 z o : BitVec 32) (t : Fin k1_t1_loop.trips) (u : Fin k1_t2_loop.trips) :
    iprop(InAt d (cW L) (jW L) f 0 inb_S2x64x128_S1x64x128_0_0_0 ∗ OutUpto d (cW L) (jW L) f 0 inb_S2x256x32_S1x256x32_0_0_0 (128 * u.val))
      ⊢ wp frame (wpE (defs₀ (F := F)) 𝒱₀ (V d (cW L) (jW L)) none) Set.univ
          (k1_t2_body L wideV (Memref.isWhole_whole _) resV (Memref.isWhole_whole _) inV (Memref.isWhole_whole _)
            pkV (Memref.isWhole_whole _) cc1_scratch2 cc1_scratch3 v2 z o t u ⟨⟩)
          fun _ => iprop(InAt d (cW L) (jW L) f 0 inb_S2x64x128_S1x64x128_0_0_0 ∗ OutUpto d (cW L) (jW L) f 0 inb_S2x256x32_S1x256x32_0_0_0 (128 * (u.val + 1))) := by
  have hu : u.val < 64 := lt_of_lt_of_eq u.isLt trips_in0
  unfold k1_t2_body
  simp only [k1_part1_eq_skeleton, k1_part2_eq_skeleton, k1_part1_skel, k1_part2_skel, wp_bind, wp_pure]
  iintro ⟨Hin, Hout⟩
  iapply (wp_ld d (cW L) (jW L) f 0 inb_S2x64x128_S1x64x128_0_0_0 (k1_off5 u) (k1_off5_inb u) (k1_off5_eq u) (k := 128 * u.val + 0) rfl) $$ Hin
  iintro Hin
  iapply (wp_st d (cW L) (jW L) f 0 inb_S2x256x32_S1x256x32_0_0_0 (k1_off6 u 0#32) (k1_off6_inb u 0) (k1_off6_eq u 0)
    (k := 128 * u.val + 0) (k' := 128 * u.val + 16) (by show 32 * (4 * u.val + 0) + 0 = _; omega) (by omega) (shapeCast_shapeCast _ _ _) (by omega)) $$ Hout
  iintro Hout
  iapply (wp_ld d (cW L) (jW L) f 0 inb_S2x64x128_S1x64x128_0_0_0 (k1_off7 u) (k1_off7_inb u) (k1_off7_eq u) (k := 128 * u.val + 16) rfl) $$ Hin
  iintro Hin
  iapply (wp_st d (cW L) (jW L) f 0 inb_S2x256x32_S1x256x32_0_0_0 (k1_off8 u 0#32) (k1_off8_inb u 0) (k1_off8_eq u 0)
    (k := 128 * u.val + 16) (k' := 128 * u.val + 32) (by show 32 * (4 * u.val + 0) + 16 = _; omega) (by omega) (shapeCast_shapeCast _ _ _) (by omega)) $$ Hout
  iintro Hout
  iapply (wp_ld d (cW L) (jW L) f 0 inb_S2x64x128_S1x64x128_0_0_0 (k1_off9 u) (k1_off9_inb u) (k1_off9_eq u) (k := 128 * u.val + 32) rfl) $$ Hin
  iintro Hin
  iapply (wp_st d (cW L) (jW L) f 0 inb_S2x256x32_S1x256x32_0_0_0 (k1_off6 u 1#32) (k1_off6_inb u 1) (k1_off6_eq u 1)
    (k := 128 * u.val + 32) (k' := 128 * u.val + 48) (by show 32 * (4 * u.val + 1) + 0 = _; omega) (by omega) (shapeCast_shapeCast _ _ _) (by omega)) $$ Hout
  iintro Hout
  iapply (wp_ld d (cW L) (jW L) f 0 inb_S2x64x128_S1x64x128_0_0_0 (k1_off10 u) (k1_off10_inb u) (k1_off10_eq u) (k := 128 * u.val + 48) rfl) $$ Hin
  iintro Hin
  imodintro
  iapply (wp_st d (cW L) (jW L) f 0 inb_S2x256x32_S1x256x32_0_0_0 (k1_off8 u 1#32) (k1_off8_inb u 1) (k1_off8_eq u 1)
    (k := 128 * u.val + 48) (k' := 128 * u.val + 64) (by show 32 * (4 * u.val + 1) + 16 = _; omega) (by omega) (shapeCast_shapeCast _ _ _) (by omega)) $$ Hout
  iintro Hout
  iapply (wp_ld d (cW L) (jW L) f 0 inb_S2x64x128_S1x64x128_0_0_0 (k1_off11 u) (k1_off11_inb u) (k1_off11_eq u) (k := 128 * u.val + 64) rfl) $$ Hin
  iintro Hin
  iapply (wp_st d (cW L) (jW L) f 0 inb_S2x256x32_S1x256x32_0_0_0 (k1_off6 u 2#32) (k1_off6_inb u 2) (k1_off6_eq u 2)
    (k := 128 * u.val + 64) (k' := 128 * u.val + 80) (by show 32 * (4 * u.val + 2) + 0 = _; omega) (by omega) (shapeCast_shapeCast _ _ _) (by omega)) $$ Hout
  iintro Hout
  iapply (wp_ld d (cW L) (jW L) f 0 inb_S2x64x128_S1x64x128_0_0_0 (k1_off12 u) (k1_off12_inb u) (k1_off12_eq u) (k := 128 * u.val + 80) rfl) $$ Hin
  iintro Hin
  iapply (wp_st d (cW L) (jW L) f 0 inb_S2x256x32_S1x256x32_0_0_0 (k1_off8 u 2#32) (k1_off8_inb u 2) (k1_off8_eq u 2)
    (k := 128 * u.val + 80) (k' := 128 * u.val + 96) (by show 32 * (4 * u.val + 2) + 16 = _; omega) (by omega) (shapeCast_shapeCast _ _ _) (by omega)) $$ Hout
  iintro Hout
  iapply (wp_ld d (cW L) (jW L) f 0 inb_S2x64x128_S1x64x128_0_0_0 (k1_off13 u) (k1_off13_inb u) (k1_off13_eq u) (k := 128 * u.val + 96) rfl) $$ Hin
  iintro Hin
  imodintro
  iapply (wp_st d (cW L) (jW L) f 0 inb_S2x256x32_S1x256x32_0_0_0 (k1_off6 u 3#32) (k1_off6_inb u 3) (k1_off6_eq u 3)
    (k := 128 * u.val + 96) (k' := 128 * u.val + 112) (by show 32 * (4 * u.val + 3) + 0 = _; omega) (by omega) (shapeCast_shapeCast _ _ _) (by omega)) $$ Hout
  iintro Hout
  iapply (wp_ld d (cW L) (jW L) f 0 inb_S2x64x128_S1x64x128_0_0_0 (k1_off14 u) (k1_off14_inb u) (k1_off14_eq u) (k := 128 * u.val + 112) rfl) $$ Hin
  iintro Hin
  iapply (wp_st d (cW L) (jW L) f 0 inb_S2x256x32_S1x256x32_0_0_0 (k1_off8 u 3#32) (k1_off8_inb u 3) (k1_off8_eq u 3)
    (k := 128 * u.val + 112) (k' := 128 * (u.val + 1)) (by show 32 * (4 * u.val + 3) + 16 = _; omega) (by omega) (shapeCast_shapeCast _ _ _) (by omega)) $$ Hout
  iintro Hout
  imodintro
  isplitl [Hin] <;> iassumption

/-- Slot 0's loop copies the whole slot. -/
theorem rowLoop0 (FY : S262144x128.Idx → Elt F .f32) (p : ℕ) (v2 z o : BitVec 32) (t : Fin k1_t1_loop.trips) :
    iprop(Has d (cW L) (jW L) in0 (wideAt FY p) ∗ Free d (cW L) (jW L) pk0)
      ⊢ wp frame (wpE (defs₀ (F := F)) 𝒱₀ (V d (cW L) (jW L)) none) Set.univ
          (Scf.Loop.for k1_t2_loop k1_t2_ok ⟨⟩ (k1_t2_body L wideV (Memref.isWhole_whole _) resV (Memref.isWhole_whole _) inV (Memref.isWhole_whole _)
            pkV (Memref.isWhole_whole _) cc1_scratch2 cc1_scratch3 v2 z o t))
          fun _ => iprop(Free d (cW L) (jW L) in0 ∗ Has d (cW L) (jW L) pk0 (resAt FY (4 * p))) := by
  iintro ⟨Hin, Hout⟩
  ihave Hin := (Entails.of_eq (show (Has d (cW L) (jW L) in0 (wideAt FY p) : sProp 𝕄) = _ from by unfold Has; rfl)) $$ Hin
  icases Hin with ⟨%f, %hf, Hin⟩
  ihave Hout := (free_out d (cW L) (jW L) f 0 inb_S2x256x32_S1x256x32_0_0_0) $$ Hout
  iapply (Scf.wp_for (I := fun u _ => iprop(InAt d (cW L) (jW L) f 0 inb_S2x64x128_S1x64x128_0_0_0 ∗ OutUpto d (cW L) (jW L) f 0 inb_S2x256x32_S1x256x32_0_0_0 (128 * u))) (hbody := ?_))
  · intro u acc
    exact rowTrip0 d L f v2 z o t u
  isplitl [Hin Hout]
  · isplitl [Hin]
    · unfold InAt; iexact Hin
    · iexact Hout
  · iintro %_ ⟨Hin, Hout⟩
    isplitl [Hin]
    · unfold InAt Free; iexists f; iexact Hin
    · ihave Hout := (Entails.of_eq (show (OutUpto d (cW L) (jW L) f 0 inb_S2x256x32_S1x256x32_0_0_0 (128 * k1_t2_loop.trips) : sProp 𝕄)
          = OutUpto d (cW L) (jW L) f 0 inb_S2x256x32_S1x256x32_0_0_0 8192 from by rw [trips_in0])) $$ Hout
      iapply (out_has FY d (cW L) (jW L) f 0 p inb_S2x64x128_S1x64x128_0_0_0 inb_S2x256x32_S1x256x32_0_0_0 hf) $$ Hout

set_option maxHeartbeats 4000000 in
/-- One trip of slot 1's loop copies one wide row, as four packed rows. -/
theorem rowTrip1 (v2 v3 : BitVec 32) (t : Fin k1_t1_loop.trips) (a8 v39 v64 : BitVec 32) (u : Fin k1_t3_loop.trips) :
    iprop(InAt d (cW L) (jW L) f 1 inb_S2x64x128_S1x64x128_1_0_0 ∗ OutUpto d (cW L) (jW L) f 1 inb_S2x256x32_S1x256x32_1_0_0 (128 * u.val))
      ⊢ wp frame (wpE (defs₀ (F := F)) 𝒱₀ (V d (cW L) (jW L)) none) Set.univ
          (k1_t3_body L wideV (Memref.isWhole_whole _) resV (Memref.isWhole_whole _) inV (Memref.isWhole_whole _)
            pkV (Memref.isWhole_whole _) cc1_scratch2 cc1_scratch3 v2 v3 t a8 v39 v64 u ⟨⟩)
          fun _ => iprop(InAt d (cW L) (jW L) f 1 inb_S2x64x128_S1x64x128_1_0_0 ∗ OutUpto d (cW L) (jW L) f 1 inb_S2x256x32_S1x256x32_1_0_0 (128 * (u.val + 1))) := by
  have hu : u.val < 64 := lt_of_lt_of_eq u.isLt trips_in1
  unfold k1_t3_body
  simp only [k1_part3_eq_skeleton, k1_part4_eq_skeleton, k1_part3_skel, k1_part4_skel, wp_bind, wp_pure]
  iintro ⟨Hin, Hout⟩
  iapply (wp_ld d (cW L) (jW L) f 1 inb_S2x64x128_S1x64x128_1_0_0 (k1_off18 u) (k1_off18_inb u) (k1_off18_eq u) (k := 128 * u.val + 0) rfl) $$ Hin
  iintro Hin
  iapply (wp_st d (cW L) (jW L) f 1 inb_S2x256x32_S1x256x32_1_0_0 (k1_off19 u 0#32) (k1_off19_inb u 0) (k1_off19_eq u 0)
    (k := 128 * u.val + 0) (k' := 128 * u.val + 16) (by show 32 * (4 * u.val + 0) + 0 = _; omega) (by omega) (shapeCast_shapeCast _ _ _) (by omega)) $$ Hout
  iintro Hout
  iapply (wp_ld d (cW L) (jW L) f 1 inb_S2x64x128_S1x64x128_1_0_0 (k1_off20 u) (k1_off20_inb u) (k1_off20_eq u) (k := 128 * u.val + 16) rfl) $$ Hin
  iintro Hin
  iapply (wp_st d (cW L) (jW L) f 1 inb_S2x256x32_S1x256x32_1_0_0 (k1_off21 u 0#32) (k1_off21_inb u 0) (k1_off21_eq u 0)
    (k := 128 * u.val + 16) (k' := 128 * u.val + 32) (by show 32 * (4 * u.val + 0) + 16 = _; omega) (by omega) (shapeCast_shapeCast _ _ _) (by omega)) $$ Hout
  iintro Hout
  iapply (wp_ld d (cW L) (jW L) f 1 inb_S2x64x128_S1x64x128_1_0_0 (k1_off22 u) (k1_off22_inb u) (k1_off22_eq u) (k := 128 * u.val + 32) rfl) $$ Hin
  iintro Hin
  iapply (wp_st d (cW L) (jW L) f 1 inb_S2x256x32_S1x256x32_1_0_0 (k1_off19 u 1#32) (k1_off19_inb u 1) (k1_off19_eq u 1)
    (k := 128 * u.val + 32) (k' := 128 * u.val + 48) (by show 32 * (4 * u.val + 1) + 0 = _; omega) (by omega) (shapeCast_shapeCast _ _ _) (by omega)) $$ Hout
  iintro Hout
  iapply (wp_ld d (cW L) (jW L) f 1 inb_S2x64x128_S1x64x128_1_0_0 (k1_off23 u) (k1_off23_inb u) (k1_off23_eq u) (k := 128 * u.val + 48) rfl) $$ Hin
  iintro Hin
  imodintro
  iapply (wp_st d (cW L) (jW L) f 1 inb_S2x256x32_S1x256x32_1_0_0 (k1_off21 u 1#32) (k1_off21_inb u 1) (k1_off21_eq u 1)
    (k := 128 * u.val + 48) (k' := 128 * u.val + 64) (by show 32 * (4 * u.val + 1) + 16 = _; omega) (by omega) (shapeCast_shapeCast _ _ _) (by omega)) $$ Hout
  iintro Hout
  iapply (wp_ld d (cW L) (jW L) f 1 inb_S2x64x128_S1x64x128_1_0_0 (k1_off24 u) (k1_off24_inb u) (k1_off24_eq u) (k := 128 * u.val + 64) rfl) $$ Hin
  iintro Hin
  iapply (wp_st d (cW L) (jW L) f 1 inb_S2x256x32_S1x256x32_1_0_0 (k1_off19 u 2#32) (k1_off19_inb u 2) (k1_off19_eq u 2)
    (k := 128 * u.val + 64) (k' := 128 * u.val + 80) (by show 32 * (4 * u.val + 2) + 0 = _; omega) (by omega) (shapeCast_shapeCast _ _ _) (by omega)) $$ Hout
  iintro Hout
  iapply (wp_ld d (cW L) (jW L) f 1 inb_S2x64x128_S1x64x128_1_0_0 (k1_off25 u) (k1_off25_inb u) (k1_off25_eq u) (k := 128 * u.val + 80) rfl) $$ Hin
  iintro Hin
  iapply (wp_st d (cW L) (jW L) f 1 inb_S2x256x32_S1x256x32_1_0_0 (k1_off21 u 2#32) (k1_off21_inb u 2) (k1_off21_eq u 2)
    (k := 128 * u.val + 80) (k' := 128 * u.val + 96) (by show 32 * (4 * u.val + 2) + 16 = _; omega) (by omega) (shapeCast_shapeCast _ _ _) (by omega)) $$ Hout
  iintro Hout
  iapply (wp_ld d (cW L) (jW L) f 1 inb_S2x64x128_S1x64x128_1_0_0 (k1_off26 u) (k1_off26_inb u) (k1_off26_eq u) (k := 128 * u.val + 96) rfl) $$ Hin
  iintro Hin
  imodintro
  iapply (wp_st d (cW L) (jW L) f 1 inb_S2x256x32_S1x256x32_1_0_0 (k1_off19 u 3#32) (k1_off19_inb u 3) (k1_off19_eq u 3)
    (k := 128 * u.val + 96) (k' := 128 * u.val + 112) (by show 32 * (4 * u.val + 3) + 0 = _; omega) (by omega) (shapeCast_shapeCast _ _ _) (by omega)) $$ Hout
  iintro Hout
  iapply (wp_ld d (cW L) (jW L) f 1 inb_S2x64x128_S1x64x128_1_0_0 (k1_off27 u) (k1_off27_inb u) (k1_off27_eq u) (k := 128 * u.val + 112) rfl) $$ Hin
  iintro Hin
  iapply (wp_st d (cW L) (jW L) f 1 inb_S2x256x32_S1x256x32_1_0_0 (k1_off21 u 3#32) (k1_off21_inb u 3) (k1_off21_eq u 3)
    (k := 128 * u.val + 112) (k' := 128 * (u.val + 1)) (by show 32 * (4 * u.val + 3) + 16 = _; omega) (by omega) (shapeCast_shapeCast _ _ _) (by omega)) $$ Hout
  iintro Hout
  imodintro
  isplitl [Hin] <;> iassumption

/-- Slot 1's loop copies the whole slot. -/
theorem rowLoop1 (FY : S262144x128.Idx → Elt F .f32) (p : ℕ) (v2 v3 : BitVec 32) (t : Fin k1_t1_loop.trips) (a8 v39 v64 : BitVec 32) :
    iprop(Has d (cW L) (jW L) in1 (wideAt FY p) ∗ Free d (cW L) (jW L) pk1)
      ⊢ wp frame (wpE (defs₀ (F := F)) 𝒱₀ (V d (cW L) (jW L)) none) Set.univ
          (Scf.Loop.for k1_t3_loop k1_t3_ok ⟨⟩ (k1_t3_body L wideV (Memref.isWhole_whole _) resV (Memref.isWhole_whole _) inV (Memref.isWhole_whole _)
            pkV (Memref.isWhole_whole _) cc1_scratch2 cc1_scratch3 v2 v3 t a8 v39 v64))
          fun _ => iprop(Free d (cW L) (jW L) in1 ∗ Has d (cW L) (jW L) pk1 (resAt FY (4 * p))) := by
  iintro ⟨Hin, Hout⟩
  ihave Hin := (Entails.of_eq (show (Has d (cW L) (jW L) in1 (wideAt FY p) : sProp 𝕄) = _ from by unfold Has; rfl)) $$ Hin
  icases Hin with ⟨%f, %hf, Hin⟩
  ihave Hout := (free_out d (cW L) (jW L) f 1 inb_S2x256x32_S1x256x32_1_0_0) $$ Hout
  iapply (Scf.wp_for (I := fun u _ => iprop(InAt d (cW L) (jW L) f 1 inb_S2x64x128_S1x64x128_1_0_0 ∗ OutUpto d (cW L) (jW L) f 1 inb_S2x256x32_S1x256x32_1_0_0 (128 * u))) (hbody := ?_))
  · intro u acc
    exact rowTrip1 d L f v2 v3 t a8 v39 v64 u
  isplitl [Hin Hout]
  · isplitl [Hin]
    · unfold InAt; iexact Hin
    · iexact Hout
  · iintro %_ ⟨Hin, Hout⟩
    isplitl [Hin]
    · unfold InAt Free; iexists f; iexact Hin
    · ihave Hout := (Entails.of_eq (show (OutUpto d (cW L) (jW L) f 1 inb_S2x256x32_S1x256x32_1_0_0 (128 * k1_t3_loop.trips) : sProp 𝕄)
          = OutUpto d (cW L) (jW L) f 1 inb_S2x256x32_S1x256x32_1_0_0 8192 from by rw [trips_in1])) $$ Hout
      iapply (out_has FY d (cW L) (jW L) f 1 p inb_S2x64x128_S1x64x128_1_0_0 inb_S2x256x32_S1x256x32_1_0_0 hf) $$ Hout

end Cert.Proof.Lookup

end
-- ==== Proof.Pack.lean ====
/-
  The packing call's body on one subcore: 128 chunks of 64 wide rows, two a trip. While one chunk is copied row by row, the
  next is being read in and the one before written out.
-/
module

public import proofs.«01_k».proof.Proof.PackLoop

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig (HIx 2) (Elt F) ℕ UU ℕ

variable (FY : S262144x128.Idx → Elt F .f32)

/-- The semaphore of the read into slot `b`. -/
abbrev rsem (b : ℕ) (h : ∀ a, (![b] : Fin 1 → ℕ) a + S1.size a ≤ S2.size a) : DmaSem sig :=
  ((cc1_scratch2.slice (Rect.unit (s := S2) ![b] S1.size h)).squeeze S_ squeezes_S1_S_).sem
/-- The semaphore of the write out of slot `b`. -/
abbrev wsem (b : ℕ) (h : ∀ a, (![b] : Fin 1 → ℕ) a + S1.size a ≤ S2.size a) : DmaSem sig :=
  ((cc1_scratch3.slice (Rect.unit (s := S2) ![b] S1.size h)).squeeze S_ squeezes_S1_S_).sem
/-- The semaphore of the reads into slot 0. -/
abbrev rsem0 : DmaSem sig := rsem 0 inb_S2_S1_0
/-- The semaphore of the reads into slot 1. -/
abbrev rsem1 : DmaSem sig := rsem 1 inb_S2_S1_1
/-- The semaphore of the writes out of slot 0. -/
abbrev wsem0 : DmaSem sig := wsem 0 inb_S2_S1_0
/-- The semaphore of the writes out of slot 1. -/
abbrev wsem1 : DmaSem sig := wsem 1 inb_S2_S1_1

/-- Slot 0's earlier write is waited for on every trip but the first. -/
theorem cond_1_1 : ∀ t : Fin k1_t1_loop.trips, k1_cond1 t = 1#1 ↔ 0 < t.val := by decide +kernel

/-- Slot 0's next read is issued on every trip but the last. -/
theorem cond_1_2 : ∀ t : Fin k1_t1_loop.trips, k1_cond2 t = 1#1 ↔ t.val < 63 := by decide +kernel

/-- Slot 1's earlier write is waited for on every trip but the first. -/
theorem cond_1_3 : ∀ t : Fin k1_t1_loop.trips, k1_cond3 t = 1#1 ↔ 0 < t.val := by decide +kernel

/-- Slot 1's next read is issued on every trip but the last. -/
theorem cond_1_4 : ∀ t : Fin k1_t1_loop.trips, k1_cond4 t = 1#1 ↔ t.val < 63 := by decide +kernel

/-- The packing's loop makes sixty-four trips of two chunks. -/
theorem trips_1 : k1_t1_loop.trips = 64 := by decide +kernel

section Body

variable (d : Dev nD) (L : grid1.Coords) (q0 q1 : PosShare TreeShare)

/-- The first wide row of a task of the packing. -/
abbrev base1 : ℕ := 16384 * (L 1).val + 8192 * (L 0).val

/-- Where a trip writes slot 0's packed rows. -/
theorem off_1_15_0 (t : Fin k1_t1_loop.trips) : k1_off15 L t 0#32 = ![65536 * (L 1).val + 32768 * (L 0).val + 512 * t.val + 256 * 0, 0] := k1_off15_eq L t 0

/-- Where a trip writes slot 1's packed rows. -/
theorem off_1_15_1 (t : Fin k1_t1_loop.trips) : k1_off15 L t 1#32 = ![65536 * (L 1).val + 32768 * (L 0).val + 512 * t.val + 256 * 1, 0] := k1_off15_eq L t 1

/-- A read slot before trip `t`: the chunk at wide row `p` under way, or, past the last trip, free. -/
def Reading (m : Memref sig .scVector .vmem S64x128 .f32) (sem : DmaSem sig) (q : PosShare TreeShare) (p t : ℕ) : sProp 𝕄 :=
  if t < 64 then Fl d (cW L) (jW L) sem m.view.dmaCredit iprop(Has d (cW L) (jW L) m (wideAt FY p) ∗ Wide FY d (cW L) (jW L) q)
  else iprop(Free d (cW L) (jW L) m ∗ Wide FY d (cW L) (jW L) q ∗ Zero d (cW L) (jW L) sem)

/-- A write slot before trip `t`: the rows `[a, e)` on their way out, or, before the first trip, free. -/
def Writing (m : Memref sig .scVector .vmem S256x32 .f32) (sem : DmaSem sig) (a e t : ℕ) : sProp 𝕄 :=
  if 0 < t then Fl d (cW L) (jW L) sem m.view.dmaCredit iprop(Packed FY d (cW L) (jW L) a e ∗ Free d (cW L) (jW L) m)
  else iprop(Free d (cW L) (jW L) m ∗ Zero d (cW L) (jW L) sem)

/-- What holds before trip `t`, and after the last. -/
def Inv1 (t : ℕ) : sProp 𝕄 :=
  iprop(Reading FY d L in0 rsem0 q0 (base1 L + 128 * t) t ∗ Reading FY d L in1 rsem1 q1 (base1 L + 128 * t + 64) t
    ∗ Writing FY d L pk0 wsem0 (4 * (base1 L + (128 * t - 128))) (4 * (base1 L + (128 * t - 64))) t
    ∗ Writing FY d L pk1 wsem1 (4 * (base1 L + (128 * t - 64))) (4 * (base1 L + 128 * t)) t
    ∗ Packed FY d (cW L) (jW L) (4 * base1 L) (4 * (base1 L + (128 * t - 128)))
    ∗ Rest d (cW L) (jW L) (4 * (base1 L + 128 * t)) (4 * (base1 L + 8192)))

variable [FloatOps F]

/-- A step taken under a condition, before what either branch goes on to. -/
theorem when_bind {c : Prop} [Decidable c] {α : Type} {A : c → Prog (TpuEff nD τ sig (Elt F) Λ₀ (.scVector (cW L) (jW L))) PUnit}
    {R : Prog (TpuEff nD τ sig (Elt F) Λ₀ (.scVector (cW L) (jW L))) α} :
    (dite c (fun h => A h >>= fun _ => R) (fun _ => R)) = ((dite c A fun _ => pure ⟨⟩) >>= fun _ => R) := by
  by_cases h : c
  · rw [dif_pos h, dif_pos h]
  · rw [dif_neg h, dif_neg h]; rfl

/-- The wait for a write slot's rows, if any are on their way. -/
theorem wp_waitWrite (O : CellTallies nD τ sig (HIx 2)) (W : Waits sig (HIx 2)) (m : Memref sig .scVector .vmem S256x32 .f32) (sem : DmaSem sig) (a e t : ℕ) (hae : t = 0 → a = e)
    {c : Prop} [Decidable c] (hc : c ↔ 0 < t) {s : Space} {dw : (h : c) → Memref sig .scVector s S256x32 .f32} {hsrc : m.view.WordExact} {hdst : ∀ h : c, (dw h).view.WordExact}
    (hN : ∀ h : c, (dw h).view.dmaCredit = m.view.dmaCredit) {Ψ : PUnit → sProp 𝕄} :
    iprop(Transfers.MayWaits (V d (cW L) (jW L)) (default : HIx 2) O ∗ Writing FY d L m sem a e t ∗ Ow d (cW L) (jW L) O W)
      ⊢ iprop((iprop(Packed FY d (cW L) (jW L) a e ∗ Free d (cW L) (jW L) m ∗ Zero d (cW L) (jW L) sem ∗ Ow d (cW L) (jW L) O W) -∗ Ψ ⟨⟩)
        -∗ wp frame (wpE (defs₀ (F := F)) 𝒱₀ (V d (cW L) (jW L)) none) Set.univ
          (dite c (fun h => Prog.lift (.waitDma2 sem m (dw h) hsrc (hdst h))) fun _ => pure ⟨⟩) Ψ) := by
  unfold Writing
  by_cases h : c
  · rw [dif_pos h, if_pos (hc.mp h)]
    iintro ⟨#Hmw, Hfl, HO⟩ Hk
    iapply (wp_wait d (cW L) (jW L) m (dw h) sem (hN h)) $$ [Hfl HO]
    · isplitr; · iexact Hmw
      isplitl [Hfl] <;> iassumption
    iintro ⟨⟨Hp, Hm⟩, Z, HO⟩
    iapply Hk
    isplitl [Hp]; · iexact Hp
    isplitl [Hm]; · iexact Hm
    isplitl [Z] <;> iassumption
  · have h0 : ¬ 0 < t := fun h' => h (hc.mpr h')
    rw [dif_neg h, if_neg h0, wp_pure, hae (by omega)]
    iintro ⟨#Hmw, ⟨Hm, Z⟩, HO⟩ Hk
    imodintro
    iapply Hk
    ihave Hp := (packed_nil FY d (cW L) (jW L) e) $$ []
    · iempintro
    isplitl [Hp]; · iexact Hp
    isplitl [Hm]; · iexact Hm
    isplitl [Z] <;> iassumption

/-- The start of the read of the next trip's chunk, unless this is the last trip. -/
theorem wp_readNext (b : ℕ) (hb : ∀ a, (![b, 0, 0] : Fin 3 → ℕ) a + S1x64x128.size a ≤ S2x64x128.size a) (sem : DmaSem sig) (q : PosShare TreeShare) (p t : ℕ)
    {c : Prop} [Decidable c] (hc : c ↔ t < 64) (off : Fin 2 → ℕ) (h : c → ∀ a, off a + S64x128.size a ≤ S262144x128.size a) (hp : off 0 = p) (h1 : off 1 = 0)
    {hsrc : ∀ k : c, (wideC off (h k)).view.WordExact} {hdst : (inS b hb).view.WordExact}
    {hsem : DmaTarget.Typed (nD := nD) .hbm (.dma sem) (DmaTarget.here (p := Proc.scVector (cW L) (jW L)) (inS b hb))} {Ψ : PUnit → sProp 𝕄} :
    iprop(Wide FY d (cW L) (jW L) q ∗ Free d (cW L) (jW L) (inS b hb) ∗ Zero d (cW L) (jW L) sem)
      ⊢ iprop((Reading FY d L (inS b hb) sem q p t -∗ Ψ ⟨⟩)
        -∗ wp frame (wpE (defs₀ (F := F)) 𝒱₀ (V d (cW L) (jW L)) none) Set.univ
          (dite c (fun k => Prog.lift (.enqueueDma (wideC off (h k)) (DmaTarget.here (p := Proc.scVector (cW L) (jW L)) (inS b hb)) (.dma sem) (hsrc k) hdst hsem)) fun _ => pure ⟨⟩) Ψ) := by
  unfold Reading
  by_cases k : c
  · rw [dif_pos k, if_pos (hc.mp k)]
    exact wp_read FY d (cW L) (jW L) off (h k) b hb sem hp h1
  · rw [dif_neg k, if_neg (fun h' => k (hc.mpr h')), wp_pure]
    iintro ⟨Hq, Hm, Z⟩ Hk
    imodintro
    iapply Hk
    isplitl [Hm]; · iexact Hm
    isplitl [Hq] <;> iassumption

set_option maxHeartbeats 4000000 in
/-- One trip: two chunks packed and on their way out, the next two being read in. -/
theorem trip1 (O : CellTallies nD τ sig (HIx 2)) (W : Waits sig (HIx 2)) (v2 v3 : BitVec 32) (t : Fin k1_t1_loop.trips) :
    iprop(Transfers.MayWaits (V d (cW L) (jW L)) (default : HIx 2) O ∗ Inv1 FY d L q0 q1 t.val ∗ Ow d (cW L) (jW L) O W)
      ⊢ wp frame (wpE (defs₀ (F := F)) 𝒱₀ (V d (cW L) (jW L)) none) Set.univ
          (k1_t1_body L wideV (Memref.isWhole_whole _) resV (Memref.isWhole_whole _) inV (Memref.isWhole_whole _)
            pkV (Memref.isWhole_whole _) cc1_scratch2 cc1_scratch3 v2 v3 t ⟨⟩)
          fun _ => iprop(Inv1 FY d L q0 q1 (t.val + 1) ∗ Ow d (cW L) (jW L) O W) := by
  have ht : t.val < 64 := lt_of_lt_of_eq t.isLt trips_1
  unfold k1_t1_body
  simp only [k1_part5_eq_skeleton, k1_part6_eq_skeleton, k1_part5_skel, k1_part6_skel, when_bind, wp_bind, wp_pure]
  unfold Inv1
  iintro ⟨#Hmw, ⟨Hr0, Hr1, Hw0, Hw1, Hdone, Hrest⟩, HO⟩
  -- the first chunk has come in
  ihave Hr0 := (Entails.of_eq (show (Reading FY d L in0 rsem0 q0 (base1 L + 128 * t.val) t.val : sProp 𝕄) = _ from by unfold Reading; rw [if_pos ht])) $$ Hr0
  iapply (wp_wait d (cW L) (jW L) (wideC (k1_off3 L) (k1_off3_inb L)) in0 rsem0 rfl) $$ [Hr0 HO]
  · isplitr; · iexact Hmw
    isplitl [Hr0] <;> iassumption
  iintro ⟨⟨Hin, Hq0⟩, Zr0, HO⟩
  -- the slot it goes to is clear
  iapply (wp_waitWrite FY d L O W pk0 wsem0 (4 * (base1 L + (128 * t.val - 128))) (4 * (base1 L + (128 * t.val - 64))) t.val (by omega) (cond_1_1 t)
    (dw := fun h => resC (k1_off4 L) (k1_off4_inb L t h)) (fun _ => rfl)) $$ [Hw0 HO]
  · isplitr; · iexact Hmw
    isplitl [Hw0] <;> iassumption
  iintro ⟨Hp, Hout, Zw0, HO⟩
  ihave Hdone := (packed_join FY d (cW L) (jW L) (a := 4 * base1 L) (b := 4 * (base1 L + (128 * t.val - 128))) (e := 4 * (base1 L + (128 * t.val - 64))) (by omega) (by omega)) $$ [Hdone Hp]
  · isplitl [Hdone] <;> iassumption
  -- copy it
  ihave Hwp := (rowLoop0 d L FY (base1 L + 128 * t.val) _ _ _ t) $$ [Hin Hout]
  · isplitl [Hin] <;> iassumption
  iapply (wp_wand frame _ Set.univ) $$ Hwp
  iintro %_ ⟨Hin, Hout⟩
  -- and send it out
  ihave Ht := (rest_split d (cW L) (jW L) (b := 4 * (base1 L + 128 * t.val + 64)) (by omega) (by omega)) $$ Hrest
  icases Ht with ⟨Ha, Hrest⟩
  iapply (wp_write FY d (cW L) (jW L) 0 inb_S2x256x32_S1x256x32_0_0_0 (k1_off15 L t 0#32) (k1_off15_inb L t 0) wsem0
    (p := 4 * (base1 L + 128 * t.val)) (p' := 4 * (base1 L + 128 * t.val + 64)) (by rw [off_1_15_0]; show 65536 * (L 1).val + 32768 * (L 0).val + 512 * t.val + 256 * 0 = 4 * (16384 * (L 1).val + 8192 * (L 0).val + 128 * t.val); omega) (by rw [off_1_15_0]; rfl) (by omega)) $$ [Hout Ha Zw0]
  · isplitl [Hout]; · iexact Hout
    isplitl [Ha] <;> iassumption
  iintro Hw0
  imodintro
  -- read the chunk two on
  iapply (wp_readNext FY d L 0 inb_S2x64x128_S1x64x128_0_0_0 rsem0 q0 (base1 L + 128 * (t.val + 1)) (t.val + 1) ((cond_1_2 t).trans (by omega))
    (k1_off16 L t) (k1_off16_inb L t) (by rw [k1_off16_eq]; rfl) (by rw [k1_off16_eq]; rfl)) $$ [Hq0 Hin Zr0]
  · isplitl [Hq0]; · iexact Hq0
    isplitl [Hin] <;> iassumption
  iintro Hr0
  -- the second chunk likewise
  ihave Hr1 := (Entails.of_eq (show (Reading FY d L in1 rsem1 q1 (base1 L + 128 * t.val + 64) t.val : sProp 𝕄) = _ from by unfold Reading; rw [if_pos ht])) $$ Hr1
  iapply (wp_wait d (cW L) (jW L) (wideC (k1_off3 L) (k1_off3_inb L)) in1 rsem1 rfl) $$ [Hr1 HO]
  · isplitr; · iexact Hmw
    isplitl [Hr1] <;> iassumption
  iintro ⟨⟨Hin, Hq1⟩, Zr1, HO⟩
  iapply (wp_waitWrite FY d L O W pk1 wsem1 (4 * (base1 L + (128 * t.val - 64))) (4 * (base1 L + 128 * t.val)) t.val (by omega) (cond_1_3 t)
    (dw := fun h => resC (k1_off17 L) (k1_off17_inb L t h)) (fun _ => rfl)) $$ [Hw1 HO]
  · isplitr; · iexact Hmw
    isplitl [Hw1] <;> iassumption
  iintro ⟨Hp, Hout, Zw1, HO⟩
  ihave Hdone := (packed_join FY d (cW L) (jW L) (a := 4 * base1 L) (b := 4 * (base1 L + (128 * t.val - 64))) (e := 4 * (base1 L + 128 * t.val)) (by omega) (by omega)) $$ [Hdone Hp]
  · isplitl [Hdone] <;> iassumption
  ihave Hwp := (rowLoop1 d L FY (base1 L + 128 * t.val + 64) _ _ t _ _ _) $$ [Hin Hout]
  · isplitl [Hin] <;> iassumption
  iapply (wp_wand frame _ Set.univ) $$ Hwp
  iintro %_ ⟨Hin, Hout⟩
  ihave Ht := (rest_split d (cW L) (jW L) (b := 4 * (base1 L + 128 * (t.val + 1))) (by omega) (by omega)) $$ Hrest
  icases Ht with ⟨Ha, Hrest⟩
  iapply (wp_write FY d (cW L) (jW L) 1 inb_S2x256x32_S1x256x32_1_0_0 (k1_off15 L t 1#32) (k1_off15_inb L t 1) wsem1
    (p := 4 * (base1 L + 128 * t.val + 64)) (p' := 4 * (base1 L + 128 * (t.val + 1))) (by rw [off_1_15_1]; show 65536 * (L 1).val + 32768 * (L 0).val + 512 * t.val + 256 * 1 = 4 * (16384 * (L 1).val + 8192 * (L 0).val + 128 * t.val + 64); omega) (by rw [off_1_15_1]; rfl) (by omega)) $$ [Hout Ha Zw1]
  · isplitl [Hout]; · iexact Hout
    isplitl [Ha] <;> iassumption
  iintro Hw1
  imodintro
  iapply (wp_readNext FY d L 1 inb_S2x64x128_S1x64x128_1_0_0 rsem1 q1 (base1 L + 128 * (t.val + 1) + 64) (t.val + 1) ((cond_1_4 t).trans (by omega))
    (k1_off28 L t) (k1_off28_inb L t) (by rw [k1_off28_eq]; rfl) (by rw [k1_off28_eq]; rfl)) $$ [Hq1 Hin Zr1]
  · isplitl [Hq1]; · iexact Hq1
    isplitl [Hin] <;> iassumption
  iintro Hr1
  imodintro
  isplitr [HO]; swap; · iexact HO
  isplitl [Hr0]; · iexact Hr0
  isplitl [Hr1]; · iexact Hr1
  have e1 : base1 L + (128 * (t.val + 1) - 128) = base1 L + 128 * t.val := by omega
  have e2 : base1 L + (128 * (t.val + 1) - 64) = base1 L + 128 * t.val + 64 := by omega
  rw [e1, e2]
  unfold Writing
  rw [if_pos (Nat.succ_pos _), if_pos (Nat.succ_pos _)]
  isplitl [Hw0]; · iexact Hw0
  isplitl [Hw1]; · iexact Hw1
  isplitl [Hdone] <;> iassumption

/-- What the packing leaves: every row packed, everything else free. -/
def Fin1 : sProp 𝕄 :=
  iprop((Free d (cW L) (jW L) in0 ∗ Free d (cW L) (jW L) in1 ∗ Free d (cW L) (jW L) pk0 ∗ Free d (cW L) (jW L) pk1)
    ∗ (Zero d (cW L) (jW L) rsem0 ∗ Zero d (cW L) (jW L) rsem1 ∗ Zero d (cW L) (jW L) wsem0 ∗ Zero d (cW L) (jW L) wsem1)
    ∗ (Wide FY d (cW L) (jW L) q0 ∗ Wide FY d (cW L) (jW L) q1)
    ∗ Packed FY d (cW L) (jW L) (4 * base1 L) (4 * (base1 L + 8192)))

set_option maxHeartbeats 4000000 in
/-- The packing's body: from shares of the wide rows and its own block of the output, the block packed. -/
theorem body1 (O : CellTallies nD τ sig (HIx 2)) (W : Waits sig (HIx 2)) :
    iprop(Transfers.MayWaits (V d (cW L) (jW L)) (default : HIx 2) O
        ∗ (Free d (cW L) (jW L) in0 ∗ Free d (cW L) (jW L) in1 ∗ Free d (cW L) (jW L) pk0 ∗ Free d (cW L) (jW L) pk1)
        ∗ (Zero d (cW L) (jW L) rsem0 ∗ Zero d (cW L) (jW L) rsem1 ∗ Zero d (cW L) (jW L) wsem0 ∗ Zero d (cW L) (jW L) wsem1)
        ∗ (Wide FY d (cW L) (jW L) q0 ∗ Wide FY d (cW L) (jW L) q1)
        ∗ Rest d (cW L) (jW L) (4 * base1 L) (4 * (base1 L + 8192)) ∗ Ow d (cW L) (jW L) O W)
      ⊢ wp frame (wpE (defs₀ (F := F)) 𝒱₀ (V d (cW L) (jW L)) none) Set.univ
          (cc1_pack_kernel L wideV (Memref.isWhole_whole _) resV (Memref.isWhole_whole _) inV (Memref.isWhole_whole _)
            pkV (Memref.isWhole_whole _) cc1_scratch2 cc1_scratch3)
          fun _ => iprop(Fin1 FY d L q0 q1 ∗ Ow d (cW L) (jW L) O W) := by
  rw [cc1_pack_kernel_eq_skeleton]
  unfold cc1_pack_kernel_skel
  simp only [k1_part7_eq_skeleton, k1_part7_skel, wp_bind, wp_pure]
  iintro ⟨#Hmw, ⟨Fin0, Fin1, Fpk0, Fpk1⟩, ⟨Zr0, Zr1, Zw0, Zw1⟩, ⟨Hq0, Hq1⟩, Hrest, HO⟩
  iapply (wp_read FY d (cW L) (jW L) (k1_off1 L) (k1_off1_inb L) 0 inb_S2x64x128_S1x64x128_0_0_0 rsem0 (p := base1 L) (by rw [k1_off1_eq]; rfl) (by rw [k1_off1_eq]; rfl)) $$ [Hq0 Fin0 Zr0]
  · isplitl [Hq0]; · iexact Hq0
    isplitl [Fin0] <;> iassumption
  iintro Hr0
  iapply (wp_read FY d (cW L) (jW L) (k1_off2 L) (k1_off2_inb L) 1 inb_S2x64x128_S1x64x128_1_0_0 rsem1 (p := base1 L + 64) (by rw [k1_off2_eq]; rfl) (by rw [k1_off2_eq]; rfl)) $$ [Hq1 Fin1 Zr1]
  · isplitl [Hq1]; · iexact Hq1
    isplitl [Fin1] <;> iassumption
  iintro Hr1
  ihave Hd0 := (packed_nil FY d (cW L) (jW L) (4 * base1 L)) $$ []
  · iempintro
  iapply (Scf.wp_for (I := fun t _ => iprop(Transfers.MayWaits (V d (cW L) (jW L)) (default : HIx 2) O ∗ Inv1 FY d L q0 q1 t ∗ Ow d (cW L) (jW L) O W)) (hbody := ?_))
  · intro t acc
    iintro ⟨#Hmw, HI, HO⟩
    ihave Hwp := (trip1 FY d L q0 q1 O W _ _ t) $$ [HI HO]
    · isplitr; · iexact Hmw
      isplitl [HI] <;> iassumption
    iapply (wp_wand frame _ Set.univ) $$ Hwp
    iintro %_ ⟨HI, HO⟩
    isplitr; · iexact Hmw
    isplitl [HI] <;> iassumption
  isplitl [Hr0 Hr1 Fpk0 Fpk1 Zw0 Zw1 Hd0 Hrest HO]
  · isplitr; · iexact Hmw
    isplitr [HO]; swap; · iexact HO
    unfold Inv1 Reading Writing
    rw [if_pos (by omega), if_pos (by omega), if_neg (by omega), if_neg (by omega)]
    isplitl [Hr0]; · iexact Hr0
    isplitl [Hr1]; · iexact Hr1
    isplitl [Fpk0 Zw0]; · isplitl [Fpk0] <;> iassumption
    isplitl [Fpk1 Zw1]; · isplitl [Fpk1] <;> iassumption
    isplitl [Hd0]; · iexact Hd0
    iexact Hrest
  · iintro %_ ⟨-, HI, HO⟩
    imodintro
    ihave HI := (Entails.of_eq (show (Inv1 FY d L q0 q1 k1_t1_loop.trips : sProp 𝕄) =
        iprop((Free d (cW L) (jW L) in0 ∗ Wide FY d (cW L) (jW L) q0 ∗ Zero d (cW L) (jW L) rsem0)
          ∗ (Free d (cW L) (jW L) in1 ∗ Wide FY d (cW L) (jW L) q1 ∗ Zero d (cW L) (jW L) rsem1)
          ∗ Fl d (cW L) (jW L) wsem0 pk0.view.dmaCredit iprop(Packed FY d (cW L) (jW L) (4 * (base1 L + 8064)) (4 * (base1 L + 8128)) ∗ Free d (cW L) (jW L) pk0)
          ∗ Fl d (cW L) (jW L) wsem1 pk1.view.dmaCredit iprop(Packed FY d (cW L) (jW L) (4 * (base1 L + 8128)) (4 * (base1 L + 8192)) ∗ Free d (cW L) (jW L) pk1)
          ∗ Packed FY d (cW L) (jW L) (4 * base1 L) (4 * (base1 L + 8064))
          ∗ Rest d (cW L) (jW L) (4 * (base1 L + 8192)) (4 * (base1 L + 8192))) from by
      rw [trips_1]
      unfold Inv1 Reading Writing
      rw [if_neg (by omega), if_neg (by omega), if_pos (by omega), if_pos (by omega)])) $$ HI
    icases HI with ⟨⟨Fin0, Hq0, Zr0⟩, ⟨Fin1, Hq1, Zr1⟩, Hw0, Hw1, Hdone, -⟩
    iapply (wp_wait d (cW L) (jW L) pk0 (resC (k1_off29 L) (k1_off29_inb L)) wsem0 rfl) $$ [Hw0 HO]
    · isplitr; · iexact Hmw
      isplitl [Hw0] <;> iassumption
    iintro ⟨⟨Hp, Fpk0⟩, Zw0, HO⟩
    ihave Hdone := (packed_join FY d (cW L) (jW L) (a := 4 * base1 L) (b := 4 * (base1 L + 8064)) (e := 4 * (base1 L + 8128)) (by omega) (by omega)) $$ [Hdone Hp]
    · isplitl [Hdone] <;> iassumption
    iapply (wp_wait d (cW L) (jW L) pk1 (resC (k1_off29 L) (k1_off29_inb L)) wsem1 rfl) $$ [Hw1 HO]
    · isplitr; · iexact Hmw
      isplitl [Hw1] <;> iassumption
    iintro ⟨⟨Hp, Fpk1⟩, Zw1, HO⟩
    ihave Hdone := (packed_join FY d (cW L) (jW L) (a := 4 * base1 L) (b := 4 * (base1 L + 8128)) (e := 4 * (base1 L + 8192)) (by omega) (by omega)) $$ [Hdone Hp]
    · isplitl [Hdone] <;> iassumption
    imodintro
    isplitr [HO]; swap; · iexact HO
    unfold Fin1
    isplitl [Fin0 Fin1 Fpk0 Fpk1]
    · isplitl [Fin0]; · iexact Fin0
      isplitl [Fin1]; · iexact Fin1
      isplitl [Fpk0] <;> iassumption
    isplitl [Zr0 Zr1 Zw0 Zw1]
    · isplitl [Zr0]; · iexact Zr0
      isplitl [Zr1]; · iexact Zr1
      isplitl [Zw0] <;> iassumption
    isplitl [Hq0 Hq1]
    · isplitl [Hq0] <;> iassumption
    iexact Hdone

end Body

end Cert.Proof.Lookup

end
-- ==== Proof.Pays.lean ====
/-
  What each subcore of each call is handed and hands back, and its scratch: the two slots of each scratch buffer, the
  semaphores of each call among the subcore's own.
-/
module

public import proofs.«01_k».proof.Proof.Gather
public import proofs.«01_k».proof.Proof.Pack
public import Idealize.ShloMosaic.Lib.SparseCore.Quiescent
public import Idealize.ShloMosaic.Lib.ShareLeaves

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig (HIx 2) (Elt F) ℕ UU ℕ

/-! ## The payloads -/

section Pays

variable (FT : S1572864x16.Idx → Elt F .f32) (FI : S2097152.Idx → Elt F .i32) (FY : S262144x128.Idx → Elt F .f32)
variable (d : Dev nD) (c : Fin τ.nSC) (i : Fin τ.nSub)

/-- Which of the thirty-two blocks subcore `(c, i)` works on. -/
def blk : Fin (2 ^ 5) := ⟨2 * i.val + c.val, by
  have h : c.val < 2 := c.isLt
  have h' : i.val < 16 := i.isLt
  omega⟩

/-- The share of an array every subcore reads that subcore `(c, i)` holds. -/
def shr : PosShare TreeShare := ShareLeaves.leaf 5 fullShare (blk c i)

/-- The gather's shares of its list and of its table. -/
def Read0 : sProp 𝕄 :=
  iprop(Ids FI d c i (shr c i).left ∗ Ids FI d c i (shr c i).right ∗ Tbl FT d c i (shr c i).left ∗ Tbl FT d c i (shr c i).right)

/-- The gather's task: the shares, and its own block of the output. -/
def Go0 : sProp 𝕄 := iprop(Read0 FT FI d c i ∗ Todo d c i (131072 * i.val + 65536 * c.val) (131072 * i.val + 65536 * c.val + 65536))

/-- What the gather's task brings back: the shares, and its block of the output, gathered. -/
def Td0 : sProp 𝕄 := iprop(Read0 FT FI d c i ∗ Done FT FI d c i (131072 * i.val + 65536 * c.val) (131072 * i.val + 65536 * c.val + 65536))

/-- The packing's shares of the wide rows. -/
def Read1 : sProp 𝕄 := iprop(Wide FY d c i (shr c i).left ∗ Wide FY d c i (shr c i).right)

/-- The packing's task: the shares, and its own block of the result. -/
def Go1 : sProp 𝕄 := iprop(Read1 FY d c i ∗ Rest d c i (4 * (16384 * i.val + 8192 * c.val)) (4 * (16384 * i.val + 8192 * c.val + 8192)))

/-- What the packing's task brings back: the shares, and its block of the result, packed. -/
def Td1 : sProp 𝕄 := iprop(Read1 FY d c i ∗ Packed FY d c i (4 * (16384 * i.val + 8192 * c.val)) (4 * (16384 * i.val + 8192 * c.val + 8192)))

/-- The handshake can carry what a gather's task starts from. -/
instance go0_storable : BI.Storable (upEmb : UEmb _ 𝕄) (Go0 FT FI d c i) := by unfold Go0 Read0 Ids Tbl Todo; infer_instance

/-- The handshake can carry what a gather's task brings back. -/
instance td0_storable : BI.Storable (upEmb : UEmb _ 𝕄) (Td0 FT FI d c i) := by unfold Td0 Read0 Ids Tbl Done; infer_instance

/-- The handshake can carry what a packing's task starts from. -/
instance go1_storable : BI.Storable (upEmb : UEmb _ 𝕄) (Go1 FY d c i) := by unfold Go1 Read1 Wide Rest; infer_instance

/-- The handshake can carry what a packing's task brings back. -/
instance td1_storable : BI.Storable (upEmb : UEmb _ 𝕄) (Td1 FY d c i) := by unfold Td1 Read1 Wide Packed; infer_instance

end Pays

/-! ## A subcore's scratch -/

section Scratch

variable (d : Dev nD) (c : Fin τ.nSC) (i : Fin τ.nSub)

/-- A buffer of two slots, held whole at some contents, is its two slots. -/
theorem two_slots {ℓ : Loc nD τ sig} {S S' : Finset (Idx ℓ)} (g : Idx ℓ → ℕ) (hg : ∀ x, g x < 2) (h : ∀ x, x ∈ S ↔ g x = 0) (h' : ∀ x, x ∈ S' ↔ g x = 1) :
    (iprop(∃ f : Buf (Elt F) ℓ, ℓ ↦{fullShare} f) : sProp 𝕄) ⊣⊢ iprop((∃ f : Buf (Elt F) ℓ, ℓ ↦[S]{fullShare} f) ∗ (∃ f : Buf (Elt F) ℓ, ℓ ↦[S']{fullShare} f)) := by
  refine halves S S' (Finset.disjoint_left.mpr fun x hx hx' => ?_) (Finset.eq_univ_iff_forall.mpr fun x => ?_)
  · have h1 := (h x).mp hx
    have h2 := (h' x).mp hx'
    omega
  · rw [Finset.mem_union, h, h']
    have := hg x
    omega

/-- The buffer of row numbers is its two slots. -/
theorem slots_idx : (iprop(∃ f, (V d c i).loc cc0_scratch0 ↦{fullShare} f) : sProp 𝕄) ⊣⊢ iprop(Free d c i idx0 ∗ Free d c i idx1) :=
  two_slots (ℓ := (V d c i).loc cc0_scratch0) (S := idx0.view.set) (S' := idx1.view.set) (fun x : S2x1024.Idx => (x 0).val) (fun x => (x 0).isLt) (mem_idxS 0 _) (mem_idxS 1 _)

/-- The buffer of gathered rows is its two slots. -/
theorem slots_row : (iprop(∃ f, (V d c i).loc cc0_scratch1 ↦{fullShare} f) : sProp 𝕄) ⊣⊢ iprop(Free d c i row0 ∗ Free d c i row1) :=
  two_slots (ℓ := (V d c i).loc cc0_scratch1) (S := row0.view.set) (S' := row1.view.set) (fun x : S2x1024x16.Idx => (x 0).val) (fun x => (x 0).isLt) (mem_rowS 0 _) (mem_rowS 1 _)

/-- The buffer of wide rows is its two slots. -/
theorem slots_in : (iprop(∃ f, (V d c i).loc cc1_scratch0 ↦{fullShare} f) : sProp 𝕄) ⊣⊢ iprop(Free d c i in0 ∗ Free d c i in1) :=
  two_slots (ℓ := (V d c i).loc cc1_scratch0) (S := in0.view.set) (S' := in1.view.set) (fun x : S2x64x128.Idx => (x 0).val) (fun x => (x 0).isLt) (mem_inS 0 _) (mem_inS 1 _)

/-- The buffer of packed rows is its two slots. -/
theorem slots_pk : (iprop(∃ f, (V d c i).loc cc1_scratch1 ↦{fullShare} f) : sProp 𝕄) ⊣⊢ iprop(Free d c i pk0 ∗ Free d c i pk1) :=
  two_slots (ℓ := (V d c i).loc cc1_scratch1) (S := pk0.view.set) (S' := pk1.view.set) (fun x : S2x256x32.Idx => (x 0).val) (fun x => (x 0).isLt) (mem_pkS 0 _) (mem_pkS 1 _)

/-- Two of a subcore's buffers, taken out of all it owns: they, and a way to put them back. -/
theorem own_two (a b : Ref sig .scVector) (hab : b ≠ a) (ha : ((Proc.scVector c i).devRef a : DevRef τ sig).owner.home = Proc.scVector c i)
    (hb : ((Proc.scVector c i).devRef b : DevRef τ sig).owner.home = Proc.scVector c i) :
    (ownBufs (V d c i) : sProp 𝕄)
      ⊢ iprop((∃ f, (V d c i).loc a ↦{fullShare} f) ∗ (∃ f, (V d c i).loc b ↦{fullShare} f)
          ∗ (((∃ f, (V d c i).loc a ↦{fullShare} f) ∗ (∃ f, (V d c i).loc b ↦{fullShare} f)) -∗ ownBufs (V d c i))) := by
  have e : (ownBufs (V d c i) : sProp 𝕄)
      = iprop((∃ f, (V d c i).loc a ↦{fullShare} f) ∗ (∃ f, (V d c i).loc b ↦{fullShare} f)
          ∗ bigSep (((ownRefs (τ := τ) (.scVector c i)).erase ((Proc.scVector c i).devRef a)).erase ((Proc.scVector c i).devRef b))
              fun b => iprop(∃ f, ((d, b) : Loc nD τ sig) ↦{fullShare} f)) := by
    unfold SparseCore.Cfg.ownBufs
    refine (SparseCore.bigSep_erase' (mem_ownRefs.mpr ha)).trans ?_
    rw [SparseCore.bigSep_erase' (Finset.mem_erase.mpr ⟨fun h => hab (Proc.devRef_injective _ h),
      mem_ownRefs.mpr hb⟩)]
  rw [e]
  iintro ⟨Ha, Hb, Hr⟩
  isplitl [Ha]; · iexact Ha
  isplitl [Hb]; · iexact Hb
  iintro ⟨Ha, Hb⟩
  isplitl [Ha]; · iexact Ha
  isplitl [Hb] <;> iassumption

/-- The semaphores of a list, each at zero. -/
def Zeros : List (DmaSem sig) → sProp 𝕄
  | [] => iprop(emp)
  | s :: l => iprop(Zero d c i s ∗ Zeros l)

/-- Distinct semaphores among a set of cells at zero: they, and a way to put them back. -/
theorem zeros_of : ∀ (l : List (DmaSem sig)) (X : Finset (GSem nD τ sig)), l.Nodup → (∀ s ∈ l, ((V d c i, SemLoc.dma s) : GSem nD τ sig) ∈ X) →
    (bigSep X fun g => semVal g 0 : sProp 𝕄) ⊢ iprop(Zeros d c i l ∗ (Zeros d c i l -∗ bigSep X fun g => semVal g 0))
  | [], X, _, _ => by
    unfold Zeros
    iintro H
    isplitr; · iempintro
    iintro -; iexact H
  | s :: l, X, hn, hX => by
    unfold Zeros
    rw [SparseCore.bigSep_erase' (hX s List.mem_cons_self)]
    have ih := zeros_of l (X.erase (V d c i, SemLoc.dma s)) (List.nodup_cons.mp hn).2 fun s' hs' => Finset.mem_erase.mpr
      ⟨fun e => (List.nodup_cons.mp hn).1 (by
        have e' : s' = s := by injection (Prod.mk.inj e).2
        exact e' ▸ hs'), hX s' (List.mem_cons_of_mem _ hs')⟩
    iintro ⟨Hs, H⟩
    ihave H' := ih $$ H
    icases H' with ⟨Hl, Hk⟩
    isplitl [Hs Hl]; · isplitl [Hs] <;> iassumption
    iintro ⟨Hs, Hl⟩
    isplitl [Hs]; · iexact Hs
    iapply Hk; iexact Hl

/-- Distinct semaphores of a subcore, taken at zero out of all it owns: they, and a way to put them back. -/
theorem own_sems (l : List (DmaSem sig)) (hn : l.Nodup) (hs : ∀ s ∈ l, (SemLoc.dma s : SemLoc sig).isScoped .scVector = true) :
    (ownSems0 (V d c i) : sProp 𝕄) ⊢ iprop(Zeros d c i l ∗ (Zeros d c i l -∗ ownSems0 (V d c i))) :=
  zeros_of d c i l _ hn fun s h => mem_ownCells.mpr ⟨rfl, hs s h⟩

/-- The semaphores of the gather. -/
def sems0 : List (DmaSem sig) := [gsem0, gsem1, isem0, isem1, cc0_scoped1.sem, cc0_scoped2.sem, cc0_scoped0.sem]

/-- The semaphores of the packing. -/
def sems1 : List (DmaSem sig) := [rsem0, rsem1, wsem0, wsem1]

/-- The gather's semaphores are distinct. -/
theorem nodup0 : sems0.Nodup := by decide

/-- The packing's semaphores are distinct. -/
theorem nodup1 : sems1.Nodup := by decide

/-- The gather's semaphores belong to the subcore that runs the task. -/
theorem scoped0 : ∀ s ∈ sems0, (SemLoc.dma s : SemLoc sig).isScoped .scVector = true := by decide

/-- The packing's semaphores belong to the subcore that runs the task. -/
theorem scoped1 : ∀ s ∈ sems1, (SemLoc.dma s : SemLoc sig).isScoped .scVector = true := by decide

end Scratch

end Cert.Proof.Lookup

end
-- ==== Proof.Tiles.lean ====
/-
  Each call's task on one subcore, from what the launch hands it to what it hands back, and the two calls' obligations.
-/
module

public import proofs.«01_k».proof.Proof.Pays

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F]

local notation "𝕄" => MT nD τ sig (HIx 2) (Elt F) ℕ UU ℕ

variable (FT : Dev nD → S1572864x16.Idx → Elt F .f32) (FI : Dev nD → S2097152.Idx → Elt F .i32) (FY : Dev nD → S262144x128.Idx → Elt F .f32)

/-- What a task brings back beside its payload: its scratch, its semaphores at zero, and the waits it recorded. -/
def Back (d : Dev nD) (c : Fin τ.nSC) (i : Fin τ.nSub) (O : CellTallies nD τ sig (HIx 2)) (W : Waits sig (HIx 2)) : sProp 𝕄 :=
  iprop(scopedBufs (V d c i) ∗ scopedSems0 (V d c i) ∗ Ow d c i O W)

/-- A task that has recorded no wait yet owes what it started with. -/
theorem ow_refl (d : Dev nD) (c : Fin τ.nSC) (i : Fin τ.nSub) (O : CellTallies nD τ sig (HIx 2)) (W : Waits sig (HIx 2)) :
    (owes (V d c i) O W : sProp 𝕄) ⊢ Ow d c i O W := by
  unfold Ow
  iintro H
  iexists W; isplitr; · ipureintro; exact fun _ h => .inl h
  iexact H

/-- The gather's task. -/
theorem tile0 (hF : (K (F := F)).Facts) (d : Dev nD) (L : grid0.Coords) (hin : ∀ x, (FI d x).toNat < 1572864) (O : CellTallies nD τ sig (HIx 2)) (W : Waits sig (HIx 2))
    (hO : ∀ g, O g none = 0) :
    iprop(levAts (K (F := F)).L (K (F := F)).lev ∗ emp ∗ Go0 (FT d) (FI d) d (cV L) (jV L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tblV (Memref.isWhole_whole _) idsV (Memref.isWhole_whole _) outV (Memref.isWhole_whole _) idxV (Memref.isWhole_whole _)
            rowV (Memref.isWhole_whole _) cc0_scratch2 cc0_scratch3 cc0_scoped0 cc0_scoped1 cc0_scoped2)
          fun _ => iprop(Td0 (FT d) (FI d) d (cV L) (jV L) ∗ Back d (cV L) (jV L) O W) := by
  unfold Back
  rw [(K (F := F)).scopedBufs_V hF d (cV L) (jV L), SparseCore.Cfg.scopedSems0_V (Val := Elt F) d (cV L) (jV L)]
  iintro ⟨#Hlv, -, Hgo, Hbufs, Hsems, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave HO := (ow_refl d (cV L) (jV L) O W) $$ HO
  ihave Hbufs := (own_two d (cV L) (jV L) cc0_scratch0 cc0_scratch1 (by decide) rfl rfl) $$ Hbufs
  icases Hbufs with ⟨Hs0, Hs1, Hbk⟩
  ihave Hs0 := (slots_idx (F := F) d (cV L) (jV L)).1 $$ Hs0
  ihave Hs1 := (slots_row (F := F) d (cV L) (jV L)).1 $$ Hs1
  icases Hs0 with ⟨Fi0, Fi1⟩
  icases Hs1 with ⟨Fr0, Fr1⟩
  ihave Hsems := (own_sems (F := F) d (cV L) (jV L) sems0 nodup0 scoped0) $$ Hsems
  unfold sems0 Zeros Zeros Zeros Zeros Zeros Zeros Zeros Zeros Go0 Td0 Read0
  icases Hsems with ⟨⟨Z0, Z1, Z2, Z3, Z4, Z5, Z6, -⟩, Hsk⟩
  icases Hgo with ⟨⟨Hr0, Hr1, Hq0, Hq1⟩, Htodo⟩
  ihave Hwp := (body0 (FT d) (FI d) d L (shr (cV L) (jV L)).left (shr (cV L) (jV L)).right (shr (cV L) (jV L)).left (shr (cV L) (jV L)).right hin O W)
    $$ [Fi0 Fi1 Fr0 Fr1 Z0 Z1 Z2 Z3 Z4 Z5 Z6 Hr0 Hr1 Hq0 Hq1 Htodo HO]
  · isplitr; · iexact Hmw
    isplitl [Fi0 Fi1 Fr0 Fr1]
    · isplitl [Fi0]; · iexact Fi0
      isplitl [Fi1]; · iexact Fi1
      isplitl [Fr0] <;> iassumption
    isplitl [Z0 Z1 Z2 Z3 Z4 Z5]
    · isplitl [Z0]; · iexact Z0
      isplitl [Z1]; · iexact Z1
      isplitl [Z2]; · iexact Z2
      isplitl [Z3]; · iexact Z3
      isplitl [Z4] <;> iassumption
    isplitl [Z6]; · iexact Z6
    isplitl [Hr0 Hr1 Hq0 Hq1]
    · isplitl [Hr0]; · iexact Hr0
      isplitl [Hr1]; · iexact Hr1
      isplitl [Hq0] <;> iassumption
    isplitl [Htodo]; · iexact Htodo
    iexact HO
  iapply (wp_wand frame _ Set.univ) $$ Hwp
  iintro %_
  unfold Fin0
  iintro ⟨⟨⟨Fi0, Fi1, Fr0, Fr1⟩, ⟨Z0, Z1, Z2, Z3, Z4, Z5⟩, Hread, Hdone⟩, Z6, HO⟩
  isplitl [Hread Hdone]
  · isplitl [Hread]; · iexact Hread
    iexact Hdone
  isplitl [Hbk Fi0 Fi1 Fr0 Fr1]
  · iapply Hbk
    isplitl [Fi0 Fi1]
    · iapply (slots_idx (F := F) d (cV L) (jV L)).2
      isplitl [Fi0] <;> iassumption
    · iapply (slots_row (F := F) d (cV L) (jV L)).2
      isplitl [Fr0] <;> iassumption
  isplitr [HO]
  · iapply Hsk
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    iempintro
  iexact HO

/-- The packing's task. -/
theorem tile1 (hF : (K (F := F)).Facts) (d : Dev nD) (L : grid1.Coords) (O : CellTallies nD τ sig (HIx 2)) (W : Waits sig (HIx 2))
    (hO : ∀ g, O g none = 0) :
    iprop(levAts (K (F := F)).L (K (F := F)).lev ∗ emp ∗ Go1 (FY d) d (cW L) (jW L)
        ∗ scopedBufs (V d (cW L) (jW L)) ∗ scopedSems0 (V d (cW L) (jW L)) ∗ owes (V d (cW L) (jW L)) O W)
      ⊢ wp frame (wpE (defs₀ (F := F)) 𝒱₀ (V d (cW L) (jW L)) none) Set.univ
          (cc1_pack_kernel L wideV (Memref.isWhole_whole _) resV (Memref.isWhole_whole _) inV (Memref.isWhole_whole _)
            pkV (Memref.isWhole_whole _) cc1_scratch2 cc1_scratch3)
          fun _ => iprop(Td1 (FY d) d (cW L) (jW L) ∗ Back d (cW L) (jW L) O W) := by
  unfold Back
  rw [(K (F := F)).scopedBufs_V hF d (cW L) (jW L), SparseCore.Cfg.scopedSems0_V (Val := Elt F) d (cW L) (jW L)]
  iintro ⟨#Hlv, -, Hgo, Hbufs, Hsems, HO⟩
  ihave Hmw := (show levAts (K (F := F)).L (K (F := F)).lev ⊢ Transfers.MayWaits (V d (cW L) (jW L)) (default : HIx 2) O from
    (K (F := F)).mayWaits_none (thr := V d (cW L) (jW L)) hO) $$ Hlv
  ihave HO := (ow_refl d (cW L) (jW L) O W) $$ HO
  ihave Hbufs := (own_two d (cW L) (jW L) cc1_scratch0 cc1_scratch1 (by decide) rfl rfl) $$ Hbufs
  icases Hbufs with ⟨Hs0, Hs1, Hbk⟩
  ihave Hs0 := (slots_in (F := F) d (cW L) (jW L)).1 $$ Hs0
  ihave Hs1 := (slots_pk (F := F) d (cW L) (jW L)).1 $$ Hs1
  icases Hs0 with ⟨Fi0, Fi1⟩
  icases Hs1 with ⟨Fr0, Fr1⟩
  ihave Hsems := (own_sems (F := F) d (cW L) (jW L) sems1 nodup1 scoped1) $$ Hsems
  unfold sems1 Zeros Zeros Zeros Zeros Zeros Go1 Td1 Read1
  icases Hsems with ⟨⟨Z0, Z1, Z2, Z3, -⟩, Hsk⟩
  icases Hgo with ⟨⟨Hq0, Hq1⟩, Htodo⟩
  ihave Hwp := (body1 (FY d) d L (shr (cW L) (jW L)).left (shr (cW L) (jW L)).right O W) $$ [Fi0 Fi1 Fr0 Fr1 Z0 Z1 Z2 Z3 Hq0 Hq1 Htodo HO]
  · isplitr; · iexact Hmw
    isplitl [Fi0 Fi1 Fr0 Fr1]
    · isplitl [Fi0]; · iexact Fi0
      isplitl [Fi1]; · iexact Fi1
      isplitl [Fr0] <;> iassumption
    isplitl [Z0 Z1 Z2 Z3]
    · isplitl [Z0]; · iexact Z0
      isplitl [Z1]; · iexact Z1
      isplitl [Z2] <;> iassumption
    isplitl [Hq0 Hq1]
    · isplitl [Hq0] <;> iassumption
    isplitl [Htodo]; · iexact Htodo
    iexact HO
  iapply (wp_wand frame _ Set.univ) $$ Hwp
  iintro %_
  unfold Fin1
  iintro ⟨⟨⟨Fi0, Fi1, Fr0, Fr1⟩, ⟨Z0, Z1, Z2, Z3⟩, Hread, Hdone⟩, HO⟩
  isplitl [Hread Hdone]
  · isplitl [Hread]; · iexact Hread
    iexact Hdone
  isplitl [Hbk Fi0 Fi1 Fr0 Fr1]
  · iapply Hbk
    isplitl [Fi0 Fi1]
    · iapply (slots_in (F := F) d (cW L) (jW L)).2
      isplitl [Fi0] <;> iassumption
    · iapply (slots_pk (F := F) d (cW L) (jW L)).2
      isplitl [Fr0] <;> iassumption
  isplitr [HO]
  · iapply Hsk
    isplitl [Z0]; · iexact Z0
    isplitl [Z1]; · iexact Z1
    isplitl [Z2]; · iexact Z2
    isplitl [Z3]; · iexact Z3
    iempintro
  iexact HO

/-! ## The obligations -/

/-- What the two calls hand each task and what it hands back; a core's share is its sixteen tasks'. -/
def P : (K (F := F)).Pay (nD := nD) (Val := Elt F) (Name := ℕ) (U := UU) where
  st := fun q d c => match q with
    | 0 => bigSep Finset.univ fun i : Fin 16 => Go0 (FT d) (FI d) d c i
    | 1 => bigSep Finset.univ fun i : Fin 16 => Go1 (FY d) d c i
  dn := fun q d c => match q with
    | 0 => bigSep Finset.univ fun i : Fin 16 => Td0 (FT d) (FI d) d c i
    | 1 => bigSep Finset.univ fun i : Fin 16 => Td1 (FY d) d c i
  go := fun q d c i => match q with
    | 0 => Go0 (FT d) (FI d) d c i
    | 1 => Go1 (FY d) d c i
  td := fun q d c i => match q with
    | 0 => Td0 (FT d) (FI d) d c i
    | 1 => Td1 (FY d) d c i
  x := fun _ _ => iprop(emp)

/-- The handshakes can carry everything that the calls hand over. -/
instance P_storable : (P FT FI FY).IsStorable where
  st q d c := match q with
    | 0 => (inferInstance : BI.Storable (upEmb : UEmb _ 𝕄) (bigSep Finset.univ fun i : Fin 16 => Go0 (FT d) (FI d) d c i))
    | 1 => (inferInstance : BI.Storable (upEmb : UEmb _ 𝕄) (bigSep Finset.univ fun i : Fin 16 => Go1 (FY d) d c i))
  dn q d c := match q with
    | 0 => (inferInstance : BI.Storable (upEmb : UEmb _ 𝕄) (bigSep Finset.univ fun i : Fin 16 => Td0 (FT d) (FI d) d c i))
    | 1 => (inferInstance : BI.Storable (upEmb : UEmb _ 𝕄) (bigSep Finset.univ fun i : Fin 16 => Td1 (FY d) d c i))
  go q d c i := match q with
    | 0 => go0_storable (FT d) (FI d) d c i
    | 1 => go1_storable (FY d) d c i
  td q d c i := match q with
    | 0 => td0_storable (FT d) (FI d) d c i
    | 1 => td1_storable (FY d) d c i

/-- A task's coordinates in the gather's grid. -/
def coords0 (c : Fin (grid0.bound 0)) (s : Fin (grid0.bound 1)) : grid0.Coords :=
  fun | 0 => c | 1 => s | ⟨_ + 2, h⟩ => absurd h (Nat.not_lt.2 (Nat.le_add_left _ _))

/-- A task's coordinates in the packing's grid. -/
def coords1 (c : Fin (grid1.bound 0)) (s : Fin (grid1.bound 1)) : grid1.Coords :=
  fun | 0 => c | 1 => s | ⟨_ + 2, h⟩ => absurd h (Nat.not_lt.2 (Nat.le_add_left _ _))

/-- What a subcore runs for the gather. -/
theorem defs₀_0 (c : Fin τ.nSC) (s : Fin τ.nSub) :
    defs₀ (F := F) (.scVector c s) 0 ()
      = SparseCore.onTile hcore0 hsub0 (fun c s => cc0_gather_kernel (coords0 c s) tblV (Memref.isWhole_whole _) idsV (Memref.isWhole_whole _) outV (Memref.isWhole_whole _)
          idxV (Memref.isWhole_whole _) rowV (Memref.isWhole_whole _) cc0_scratch2 cc0_scratch3 cc0_scoped0 cc0_scoped1 cc0_scoped2) ⟨⟩ c s := rfl

/-- What a subcore runs for the packing. -/
theorem defs₀_1 (c : Fin τ.nSC) (s : Fin τ.nSub) :
    defs₀ (F := F) (.scVector c s) 1 ()
      = SparseCore.onTile hcore1 hsub1 (fun c s => cc1_pack_kernel (coords1 c s) wideV (Memref.isWhole_whole _) resV (Memref.isWhole_whole _)
          inV (Memref.isWhole_whole _) pkV (Memref.isWhole_whole _) cc1_scratch2 cc1_scratch3) ⟨⟩ c s := rfl

/-- The waits a task recorded are all of the kind its obligation allows. -/
theorem back_obl {A : sProp 𝕄} (d : Dev nD) (c : Fin τ.nSC) (i : Fin τ.nSub) {O : CellTallies nD τ sig (HIx 2)} {W : Waits sig (HIx 2)} {q : Fin 2} :
    iprop(A ∗ Back d c i O W)
      ⊢ iprop(A ∗ scopedBufs (V d c i) ∗ scopedSems0 (V d c i) ∗ ∃ W', ⌜∀ p ∈ W', p ∈ W ∨ p.2 = none ∨ p.2 = some q⌝ ∗ owes (V d c i) O W') := by
  unfold Back Ow
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The gather's obligation. -/
theorem obl0 (hF : (K (F := F)).Facts) (hin : ∀ d x, (FI d x).toNat < 1572864) : (K (F := F)).TileObl (D (F := F)) 𝒱 (P FT FI FY) v₀ 0 := by
  intro d c i O W hO _ _
  simp only [show (P FT FI FY).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_0]; simp only [SparseCore.onTile, hci, and_self, ↓reduceDIte]
  exact (tile0 FT FI hF d (coords0 ⟨_, hci.1⟩ ⟨_, hci.2⟩) (hin d) O W hO).trans
    (wp_mono frame _ _ fun _ => back_obl d (cV (coords0 ⟨_, hci.1⟩ ⟨_, hci.2⟩)) (jV (coords0 ⟨_, hci.1⟩ ⟨_, hci.2⟩)))

set_option maxRecDepth 16384 in
/-- The packing's obligation. -/
theorem obl1 (hF : (K (F := F)).Facts) : (K (F := F)).TileObl (D (F := F)) 𝒱 (P FT FI FY) v₀ 1 := by
  intro d c i O W hO _ _
  simp only [show (P FT FI FY).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_1]; simp only [SparseCore.onTile, hci, and_self, ↓reduceDIte]
  exact (tile1 FY hF d (coords1 ⟨_, hci.1⟩ ⟨_, hci.2⟩) O W hO).trans
    (wp_mono frame _ _ fun _ => back_obl d (cW (coords1 ⟨_, hci.1⟩ ⟨_, hci.2⟩)) (jW (coords1 ⟨_, hci.1⟩ ⟨_, hci.2⟩)))

/-- A core hands its sixteen tasks what it holds for them, and takes back what they bring. -/
theorem split0 : (K (F := F)).VecSplit' (P FT FI FY) 0 := by
  intro d c
  show (bigSep Finset.univ fun i : Fin 16 => Go0 (FT d) (FI d) d c i) ⊢ |={Set.univ}=> iprop(
      (bigSep Finset.univ fun i : Fin 16 => Go0 (FT d) (FI d) d c i)
      ∗ ((bigSep Finset.univ fun i : Fin 16 => Td0 (FT d) (FI d) d c i) -∗ bigSep Finset.univ fun i : Fin 16 => Td0 (FT d) (FI d) d c i))
  iintro H; imodintro
  isplitl [H]; · iexact H
  iintro H; iexact H

/-- The same for the packing's tasks. -/
theorem split1 : (K (F := F)).VecSplit' (P FT FI FY) 1 := by
  intro d c
  show (bigSep Finset.univ fun i : Fin 16 => Go1 (FY d) d c i) ⊢ |={Set.univ}=> iprop(
      (bigSep Finset.univ fun i : Fin 16 => Go1 (FY d) d c i)
      ∗ ((bigSep Finset.univ fun i : Fin 16 => Td1 (FY d) d c i) -∗ bigSep Finset.univ fun i : Fin 16 => Td1 (FY d) d c i))
  iintro H; imodintro
  isplitl [H]; · iexact H
  iintro H; iexact H

end Cert.Proof.Lookup

end
-- ==== Proof.Deal.lean ====
/-
  An array held whole is what the thirty-two subcores of a call hold of it together: a share each of an array all of them
  read, a block of rows each of an array they write.
-/
module

public import proofs.«01_k».proof.Proof.Tiles

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F]

local notation "𝕄" => MT nD τ sig (HIx 2) (Elt F) ℕ UU ℕ

/-- The tasks of a call, core by core and subcore by subcore. -/
abbrev tasks (Φ : Fin 2 → Fin 16 → sProp 𝕄) : sProp 𝕄 := bigSep Finset.univ fun c : Fin 2 => bigSep Finset.univ fun i : Fin 16 => Φ c i

/-- Two families of tasks that agree task by task are the same. -/
theorem tasks_congr {Φ Ψ : Fin 2 → Fin 16 → sProp 𝕄} (h : ∀ c i, Φ c i = Ψ c i) : tasks Φ = tasks Ψ :=
  bigSep_congr fun c _ => bigSep_congr fun i _ => h c i

/-- A step that every task can take, all of them can take. -/
theorem tasks_mono {Φ Ψ : Fin 2 → Fin 16 → sProp 𝕄} (h : ∀ c i, Φ c i ⊢ Ψ c i) : tasks Φ ⊢ tasks Ψ :=
  bigSep_mono fun c _ => bigSep_mono fun i _ => h c i

/-- Tasks that each hold two things are the tasks holding the first, and the tasks holding the second. -/
theorem tasks_sep (Φ Ψ : Fin 2 → Fin 16 → sProp 𝕄) : tasks (fun c i => iprop(Φ c i ∗ Ψ c i)) = iprop(tasks Φ ∗ tasks Ψ) := by
  unfold tasks
  rw [← bigSep_sep']
  exact bigSep_congr fun c _ => bigSep_sep' _ _ _

/-- Over the tasks is over the thirty-two blocks. -/
theorem tasks_blk (Ψ : Fin (2 ^ 5) → sProp 𝕄) : tasks (fun c i => Ψ (blk c i)) = bigSep Finset.univ Ψ := by
  unfold tasks
  rw [bigSep_univ_equiv ((Equiv.prodComm (Fin 2) (Fin 16)).trans finProdFinEquiv) Ψ, bigSep_univ_prod]
  refine bigSep_congr fun c _ => bigSep_congr fun i _ => congrArg Ψ (Fin.ext ?_)
  show 2 * i.val + c.val = c.val + 2 * i.val
  omega

/-- An array held whole is a share of it for every task. -/
theorem whole_shares {ℓ : Loc nD τ sig} (f : Buf (Elt F) ℓ) : (ℓ ↦{fullShare} f : sProp 𝕄) = tasks fun c i => ℓ ↦{shr c i} f := by
  rw [ShareLeaves.pointsTo_leaves Finset.univ f 5 fullShare]
  exact (tasks_blk fun b => (ℓ ↦{ShareLeaves.leaf 5 fullShare b} f : sProp 𝕄)).symm

/-- An array held whole is a block of rows of it for every task. -/
theorem whole_rows {ℓ : Loc nD τ sig} (g : Idx ℓ → ℕ) (k : ℕ) (hk : 0 < k) (hg : ∀ x, g x < 32 * k) (f : Buf (Elt F) ℓ) :
    (ℓ ↦{fullShare} f : sProp 𝕄)
      = tasks fun c i => ℓ ↦[Finset.univ.filter fun x => k * (2 * i.val + c.val) ≤ g x ∧ g x < k * (2 * i.val + c.val) + k]{fullShare} f := by
  have h := tasks_blk fun b => (ℓ ↦[Finset.univ.filter fun x => k * b.val ≤ g x ∧ g x < k * b.val + k]{fullShare} f : sProp 𝕄)
  refine Eq.trans ?_ h.symm
  rw [← pointsTo_biUnion (ℓ := ℓ) Finset.univ (fun b : Fin (2 ^ 5) => Finset.univ.filter fun x => k * b.val ≤ g x ∧ g x < k * b.val + k)]
  · congr 1
    refine (Finset.eq_univ_iff_forall.mpr fun x => ?_).symm
    rw [Finset.mem_biUnion]
    have hx := hg x
    refine ⟨⟨g x / k, ?_⟩, Finset.mem_univ _, Finset.mem_filter.mpr ⟨Finset.mem_univ _, ?_, ?_⟩⟩
    · exact (Nat.div_lt_iff_lt_mul hk).mpr hx
    · exact Nat.mul_div_le _ _
    · exact Nat.lt_mul_div_succ _ hk
  · intro b _ b' _ hb
    refine Finset.disjoint_left.mpr fun x hx hx' => hb (Fin.ext ?_)
    have h1 := (Finset.mem_filter.mp hx).2
    have h2 := (Finset.mem_filter.mp hx').2
    have e : ∀ b : ℕ, k * b ≤ g x ∧ g x < k * b + k → b = g x / k := fun b h => by
      refine (Nat.div_eq_of_lt_le ?_ ?_).symm
      · rw [Nat.mul_comm]; exact h.1
      · rw [Nat.mul_comm, Nat.mul_succ]; exact h.2
    exact (e _ h1).trans (e _ h2).symm

/-- A share is its two halves. -/
theorem halved {ℓ : Loc nD τ sig} (q : PosShare TreeShare) (f : Buf (Elt F) ℓ) : (ℓ ↦{q} f : sProp 𝕄) = iprop((ℓ ↦{q.left} f) ∗ (ℓ ↦{q.right} f)) :=
  BI.Entails.antisymm (pointsTo_share (PosShare.mem_left_op_right q)).1 (pointsTo_share (PosShare.mem_left_op_right q)).2

section Calls

variable (FT : S1572864x16.Idx → Elt F .f32) (FI : S2097152.Idx → Elt F .i32) (FY : S262144x128.Idx → Elt F .f32) (d : Dev nD)

/-- The gather's two inputs, held whole, are every task's shares. -/
theorem read0_all : iprop(((SparseCore.T d).loc main_v9 ↦{fullShare} FI) ∗ ((SparseCore.T d).loc main_v0 ↦{fullShare} FT)) = (tasks fun c i => Read0 FT FI d c i : sProp 𝕄) := by
  rw [whole_shares (ℓ := (SparseCore.T d).loc main_v9) FI, whole_shares (ℓ := (SparseCore.T d).loc main_v0) FT, ← tasks_sep]
  refine tasks_congr fun c i => ?_
  unfold Read0 Ids Tbl
  rw [halved (ℓ := (SparseCore.T d).loc main_v9) (shr c i), halved (ℓ := (SparseCore.T d).loc main_v0) (shr c i)]
  exact BI.Entails.antisymm BI.sep_assoc BI.sep_assoc'

/-- The gather's output, gathered whole, is every task's block gathered. -/
theorem done_all : ((SparseCore.T d).loc main_v10 ↦{fullShare} gath FT FI : sProp 𝕄)
    = tasks fun c i => Done FT FI d c i (131072 * i.val + 65536 * c.val) (131072 * i.val + 65536 * c.val + 65536) := by
  rw [whole_rows (ℓ := (SparseCore.T d).loc main_v10) (fun x : S2097152x16.Idx => (x 0).val) 65536 (by decide) (fun x => (x 0).isLt)]
  refine tasks_congr fun c i => ?_
  rw [show 65536 * (2 * i.val + c.val) = 131072 * i.val + 65536 * c.val by omega]
  rfl

/-- The gather's output, at any contents, is every task's block of it. -/
theorem todo_all (f : S2097152x16.Idx → Elt F .f32) : ((SparseCore.T d).loc main_v10 ↦{fullShare} f : sProp 𝕄)
    ⊢ tasks fun c i => Todo d c i (131072 * i.val + 65536 * c.val) (131072 * i.val + 65536 * c.val + 65536) := by
  rw [whole_rows (ℓ := (SparseCore.T d).loc main_v10) (fun x : S2097152x16.Idx => (x 0).val) 65536 (by decide) (fun x => (x 0).isLt)]
  refine tasks_mono fun c i => ?_
  rw [show 65536 * (2 * i.val + c.val) = 131072 * i.val + 65536 * c.val by omega]
  unfold Todo
  iintro H
  iexists f; iexact H

/-- The packing's input, held whole, is every task's shares. -/
theorem read1_all : ((SparseCore.T d).loc main_v11 ↦{fullShare} FY : sProp 𝕄) = tasks fun c i => Read1 FY d c i := by
  rw [whole_shares (ℓ := (SparseCore.T d).loc main_v11) FY]
  refine tasks_congr fun c i => ?_
  unfold Read1 Wide
  exact halved (ℓ := (SparseCore.T d).loc main_v11) (shr c i) FY

/-- The packing's output, packed whole, is every task's block packed. -/
theorem packed_all : ((SparseCore.T d).loc main_v12 ↦{fullShare} pack FY : sProp 𝕄)
    = tasks fun c i => Packed FY d c i (4 * (16384 * i.val + 8192 * c.val)) (4 * (16384 * i.val + 8192 * c.val + 8192)) := by
  rw [whole_rows (ℓ := (SparseCore.T d).loc main_v12) (fun x : S1048576x32.Idx => (x 0).val) 32768 (by decide) (fun x => (x 0).isLt)]
  refine tasks_congr fun c i => ?_
  rw [show 32768 * (2 * i.val + c.val) = 4 * (16384 * i.val + 8192 * c.val) by omega,
    show 4 * (16384 * i.val + 8192 * c.val) + 32768 = 4 * (16384 * i.val + 8192 * c.val + 8192) by omega]
  rfl

/-- The packing's output, at any contents, is every task's block of it. -/
theorem rest_all (f : S1048576x32.Idx → Elt F .f32) : ((SparseCore.T d).loc main_v12 ↦{fullShare} f : sProp 𝕄)
    ⊢ tasks fun c i => Rest d c i (4 * (16384 * i.val + 8192 * c.val)) (4 * (16384 * i.val + 8192 * c.val + 8192)) := by
  rw [whole_rows (ℓ := (SparseCore.T d).loc main_v12) (fun x : S1048576x32.Idx => (x 0).val) 32768 (by decide) (fun x => (x 0).isLt)]
  refine tasks_mono fun c i => ?_
  rw [show 32768 * (2 * i.val + c.val) = 4 * (16384 * i.val + 8192 * c.val) by omega,
    show 4 * (16384 * i.val + 8192 * c.val) + 32768 = 4 * (16384 * i.val + 8192 * c.val + 8192) by omega]
  unfold Rest
  iintro H
  iexists f; iexact H

/-- The gather starts from its list, its table and its output, dealt out to the tasks. -/
theorem st0 (f : S2097152x16.Idx → Elt F .f32) :
    iprop((((SparseCore.T d).loc main_v9 ↦{fullShare} FI) ∗ ((SparseCore.T d).loc main_v0 ↦{fullShare} FT)) ∗ ((SparseCore.T d).loc main_v10 ↦{fullShare} f)) ⊢ (tasks fun c i => Go0 FT FI d c i : sProp 𝕄) := by
  unfold Go0
  rw [tasks_sep, read0_all]
  exact BI.sep_mono_r (todo_all d f)

/-- The gather's tasks end with its list and table as they were, and its whole output gathered. -/
theorem dn0 : (tasks fun c i => Td0 FT FI d c i : sProp 𝕄)
    ⊢ iprop((((SparseCore.T d).loc main_v9 ↦{fullShare} FI) ∗ ((SparseCore.T d).loc main_v0 ↦{fullShare} FT)) ∗ ((SparseCore.T d).loc main_v10 ↦{fullShare} gath FT FI)) := by
  unfold Td0
  rw [tasks_sep, read0_all, done_all]

/-- The packing starts from the wide rows and its output, dealt out to the tasks. -/
theorem st1 (f : S1048576x32.Idx → Elt F .f32) :
    iprop(((SparseCore.T d).loc main_v11 ↦{fullShare} FY) ∗ ((SparseCore.T d).loc main_v12 ↦{fullShare} f)) ⊢ (tasks fun c i => Go1 FY d c i : sProp 𝕄) := by
  unfold Go1
  rw [tasks_sep, read1_all]
  exact BI.sep_mono_r (rest_all d f)

/-- The packing's tasks end with the wide rows as they were, and the whole result packed. -/
theorem dn1 : (tasks fun c i => Td1 FY d c i : sProp 𝕄)
    ⊢ iprop(((SparseCore.T d).loc main_v11 ↦{fullShare} FY) ∗ ((SparseCore.T d).loc main_v12 ↦{fullShare} pack FY)) := by
  unfold Td1
  rw [tasks_sep, read1_all, packed_all]

end Calls

end Cert.Proof.Lookup

end
-- ==== Proof.Host.lean ====
/-
  What the host's operations leave: the fold of @main's lines over the launch contents, with the two calls' results put in.
-/
module

public import proofs.«01_k».proof.Proof.Deal
public import Idealize.ShloMosaic.Lib.StableHlo.Run
public import Idealize.ShloMosaic.Lib.Pipeline.Frame

@[expose] public section

noncomputable section

namespace Cert.Proof.Lookup

open Cert.KernelIdeal Cert.KernelIdeal.Gen
open Idealize.ShloMosaic
open Idealize.ShloMosaic.StableHlo (held held_sub_split held_congr after seq)
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F]

local notation "𝕄" => MT nD τ sig (HIx 2) (Elt F) ℕ UU ℕ

/-- The device's name for one of @main's arrays. -/
abbrev arr (b : Ref sig .tc) : DevRef τ sig := Proc.devRef .tc b

/-- @main before the gather: the table as rows of sixteen, and each id as the two rows it names there. -/
abbrev line0 : List (HloOp τ sig (Elt F)) :=
  [ StableHlo.reshape main_arg0 main_v0 (rfl : (.f32 : EltTy) = .f32) shapeCasts_S786432x32_S1572864x16,
    StableHlo.unary main_arg1 main_v1 (broadcastInDim S1048576x1 ![0] bcast_S1048576_S1048576x1_0 : (⟨S1048576, .i32⟩ : BufTy).Contents (Elt F) → (⟨S1048576x1, .i32⟩ : BufTy).Contents (Elt F)),
    StableHlo.nullary main_c (constantI S_ 32 2#32),
    StableHlo.unary main_c main_v2 (broadcastInDim S1048576x1 ![] bcast_S_S1048576x1 : (⟨S_, .i32⟩ : BufTy).Contents (Elt F) → (⟨S1048576x1, .i32⟩ : BufTy).Contents (Elt F)),
    StableHlo.binary main_v2 main_v1 main_v3 (muli : (⟨S1048576x1, .i32⟩ : BufTy).Contents (Elt F) → (⟨S1048576x1, .i32⟩ : BufTy).Contents (Elt F) → (⟨S1048576x1, .i32⟩ : BufTy).Contents (Elt F)),
    StableHlo.nullary main_v4 (iotaInDim S2 32 0),
    StableHlo.unary main_v4 main_v5 (broadcastInDim S1x2 ![1] bcast_S2_S1x2_1 : (⟨S2, .i32⟩ : BufTy).Contents (Elt F) → (⟨S1x2, .i32⟩ : BufTy).Contents (Elt F)),
    StableHlo.unary main_v3 main_v6 (broadcastInDim S1048576x2 ![0, 1] bcast_S1048576x1_S1048576x2_0_1 : (⟨S1048576x1, .i32⟩ : BufTy).Contents (Elt F) → (⟨S1048576x2, .i32⟩ : BufTy).Contents (Elt F)),
    StableHlo.unary main_v5 main_v7 (broadcastInDim S1048576x2 ![0, 1] bcast_S1x2_S1048576x2_0_1 : (⟨S1x2, .i32⟩ : BufTy).Contents (Elt F) → (⟨S1048576x2, .i32⟩ : BufTy).Contents (Elt F)),
    StableHlo.binary main_v6 main_v7 main_v8 (addi : (⟨S1048576x2, .i32⟩ : BufTy).Contents (Elt F) → (⟨S1048576x2, .i32⟩ : BufTy).Contents (Elt F) → (⟨S1048576x2, .i32⟩ : BufTy).Contents (Elt F)),
    StableHlo.reshape main_v8 main_v9 (rfl : (.i32 : EltTy) = .i32) shapeCasts_S1048576x2_S2097152 ]

/-- Between the calls: the gathered rows of sixteen as rows of a hundred and twenty-eight. -/
abbrev line1 : List (HloOp τ sig (Elt F)) :=
  [ StableHlo.reshape main_v10 main_v11 (rfl : (.f32 : EltTy) = .f32) shapeCasts_S2097152x16_S262144x128 ]

/-- After the calls: the result as it is. -/
abbrev line2 : List (HloOp τ sig (Elt F)) :=
  [ StableHlo.unary main_v12 main_v13 (id : (⟨S1048576x32, .f32⟩ : BufTy).Contents (Elt F) → (⟨S1048576x32, .f32⟩ : BufTy).Contents (Elt F)) ]

/-- @main is these three lines with the two calls between them. -/
theorem main_lines (d : Dev nD) : main (F := F) d
    = seq line0 >>= fun _ => ((K (F := F)).run d 0 >>= fun _ => (seq line1 >>= fun _ => ((K (F := F)).run d 1 >>= fun _ => (seq line2 >>= fun _ => pure ⟨⟩)))) := rfl

/-- The lines before the gather touch only the TensorCore's own arrays. -/
theorem sub0 : ∀ op ∈ (line0 : List (HloOp τ sig (Elt F))), op.bufs ⊆ Pipeline.ucRefs τ sig := fun op h =>
  Pipeline.sub_ucRefs op ((List.forall_iff_forall_mem.1 (show (line0 : List (HloOp τ sig (Elt F))).Forall fun op => op.bufs ⊆ StableHlo.tcRefs τ sig from
    ⟨StableHlo.reshape_bufs_sub .., StableHlo.unary_bufs_sub .., StableHlo.nullary_bufs_sub .., StableHlo.unary_bufs_sub .., StableHlo.binary_bufs_sub ..,
      StableHlo.nullary_bufs_sub .., StableHlo.unary_bufs_sub .., StableHlo.unary_bufs_sub .., StableHlo.unary_bufs_sub .., StableHlo.binary_bufs_sub ..,
      StableHlo.reshape_bufs_sub ..⟩)) op h)

/-- So does the line between the calls. -/
theorem sub1 : ∀ op ∈ (line1 : List (HloOp τ sig (Elt F))), op.bufs ⊆ Pipeline.ucRefs τ sig := fun op h =>
  Pipeline.sub_ucRefs op ((List.forall_iff_forall_mem.1 (show (line1 : List (HloOp τ sig (Elt F))).Forall fun op => op.bufs ⊆ StableHlo.tcRefs τ sig from
    StableHlo.reshape_bufs_sub ..)) op h)

/-- So does the line after the packing. -/
theorem sub2 : ∀ op ∈ (line2 : List (HloOp τ sig (Elt F))), op.bufs ⊆ Pipeline.ucRefs τ sig := fun op h =>
  Pipeline.sub_ucRefs op ((List.forall_iff_forall_mem.1 (show (line2 : List (HloOp τ sig (Elt F))).Forall fun op => op.bufs ⊆ StableHlo.tcRefs τ sig from
    StableHlo.unary_bufs_sub ..)) op h)

/-- The lines before the gather leave no array at unknown contents. -/
theorem fresh0 : ∀ op ∈ (line0 : List (HloOp τ sig (Elt F))), op.fresh = ∅ :=
  List.forall_iff_forall_mem.1 (show (line0 : List (HloOp τ sig (Elt F))).Forall fun op => op.fresh = ∅ from
    ⟨rfl, rfl, rfl, rfl, rfl, rfl, rfl, rfl, rfl, rfl, rfl⟩)

/-- Nor does the line between the calls. -/
theorem fresh1 : ∀ op ∈ (line1 : List (HloOp τ sig (Elt F))), op.fresh = ∅ :=
  List.forall_iff_forall_mem.1 (show (line1 : List (HloOp τ sig (Elt F))).Forall fun op => op.fresh = ∅ from rfl)

/-- Nor does the line after the packing. -/
theorem fresh2 : ∀ op ∈ (line2 : List (HloOp τ sig (Elt F))), op.fresh = ∅ :=
  List.forall_iff_forall_mem.1 (show (line2 : List (HloOp τ sig (Elt F))).Forall fun op => op.fresh = ∅ from rfl)

section Contents

variable (m : (ℓ : Loc nD τ sig) → Buf (Elt F) ℓ) (d : Dev nD)

/-- Every array before the gather. -/
def Val0 : Valuation τ sig (Elt F) := after line0 fun b => m (d, b)

/-- The table the gather reads. -/
def tbl : S1572864x16.Idx → Elt F .f32 := Val0 m d (arr main_v0)

/-- The rows the gather is asked for. -/
def ids : S2097152.Idx → Elt F .i32 := Val0 m d (arr main_v9)

/-- Every array after the gather. -/
def Val1 : Valuation τ sig (Elt F) := Function.update (Val0 m d) (arr main_v10) (gath (tbl m d) (ids m d))

/-- Every array before the packing. -/
def Val2 : Valuation τ sig (Elt F) := after line1 (Val1 m d)

/-- The wide rows the packing reads. -/
def wide : S262144x128.Idx → Elt F .f32 := Val2 m d (arr main_v11)

/-- Every array after the packing. -/
def Val3 : Valuation τ sig (Elt F) := Function.update (Val2 m d) (arr main_v12) (pack (wide m d))

/-- Every array at @main's end. -/
def Val4 : Valuation τ sig (Elt F) := after line2 (Val3 m d)

/-- The gather changes no array but its output. -/
theorem Val1_ne {b : DevRef τ sig} (h : b ≠ arr main_v10) : Val1 m d b = Val0 m d b := Function.update_of_ne h _ _

/-- The packing changes no array but its output. -/
theorem Val3_ne {b : DevRef τ sig} (h : b ≠ arr main_v12) : Val3 m d b = Val2 m d b := Function.update_of_ne h _ _

/-- The gather's output is the table's rows that the list asks for. -/
theorem Val1_v10 : Val1 m d (arr main_v10) = gath (tbl m d) (ids m d) := Function.update_self _ _ _

/-- The packing's output is the wide rows, packed. -/
theorem Val3_v12 : Val3 m d (arr main_v12) = pack (wide m d) := Function.update_self _ _ _

end Contents

section Held

variable (d : Dev nD)

/-- The three arrays of the gather out of a set of arrays held. -/
theorem held_three (W : Valuation τ sig (Elt F)) :
    (held (SparseCore.T d) {arr main_v9, arr main_v0, arr main_v10} W : sProp 𝕄)
      = iprop((((SparseCore.T d).loc main_v9 ↦{fullShare} W (arr main_v9)) ∗ ((SparseCore.T d).loc main_v0 ↦{fullShare} W (arr main_v0))) ∗ ((SparseCore.T d).loc main_v10 ↦{fullShare} W (arr main_v10))) := by
  unfold held
  rw [bigSep_insert (by decide), bigSep_insert (by decide), bigSep_singleton]
  exact BI.Entails.antisymm BI.sep_assoc' BI.sep_assoc

/-- The two arrays of the packing. -/
theorem held_two (W : Valuation τ sig (Elt F)) :
    (held (SparseCore.T d) {arr main_v11, arr main_v12} W : sProp 𝕄)
      = iprop(((SparseCore.T d).loc main_v11 ↦{fullShare} W (arr main_v11)) ∗ ((SparseCore.T d).loc main_v12 ↦{fullShare} W (arr main_v12))) := by
  unfold held
  rw [bigSep_insert (by decide), bigSep_singleton]
  rfl

/-- The gather's three arrays are among the TensorCore's. -/
theorem three_sub : ({arr main_v9, arr main_v0, arr main_v10} : Finset (DevRef τ sig)) ⊆ Pipeline.ucRefs τ sig := by decide

/-- The packing's two arrays are among the TensorCore's. -/
theorem two_sub : ({arr main_v11, arr main_v12} : Finset (DevRef τ sig)) ⊆ Pipeline.ucRefs τ sig := by decide

variable (m : (ℓ : Loc nD τ sig) → Buf (Elt F) ℓ)

/-- Only the gather's output differs after the gather. -/
theorem rest0 : (held (SparseCore.T d) (Pipeline.ucRefs τ sig \ {arr main_v9, arr main_v0, arr main_v10}) (Val0 m d) : sProp 𝕄)
    = held (SparseCore.T d) (Pipeline.ucRefs τ sig \ {arr main_v9, arr main_v0, arr main_v10}) (Val1 m d) :=
  held_congr _ fun b hb => (Val1_ne m d fun e => (Finset.mem_sdiff.1 hb).2 (by rw [e]; decide)).symm

/-- Only the packing's output differs after the packing. -/
theorem rest1 : (held (SparseCore.T d) (Pipeline.ucRefs τ sig \ {arr main_v11, arr main_v12}) (Val2 m d) : sProp 𝕄)
    = held (SparseCore.T d) (Pipeline.ucRefs τ sig \ {arr main_v11, arr main_v12}) (Val3 m d) :=
  held_congr _ fun b hb => (Val3_ne m d fun e => (Finset.mem_sdiff.1 hb).2 (by rw [e]; decide)).symm

end Held

end Cert.Proof.Lookup

end
-- ==== Proof.Launch.lean ====
/-
  @main run on a device: the host's lines, each call from the arrays it takes to the arrays it leaves, and what the final
  state holds.
-/
module

public import proofs.«01_k».proof.Proof.Host

@[expose] public section

noncomputable section

namespace Cert.Proof.Lookup

open Cert.KernelIdeal Cert.KernelIdeal.Gen
open Idealize.ShloMosaic
open Idealize.ShloMosaic.StableHlo (held held_sub_split held_congr after seq wp_seq)
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 2) (Elt F) ℕ UU ℕ

/-- The launch's handshake semaphores are plain ones, each its own, and no array a SparseCore owns is shared by its subcores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- What the launch starts the proof with: the handshakes' rounds, and no counter. -/
def u₀ : UU := (initOf (K (F := F)).hsCells (K (F := F)).hsToks, 1)

variable (m : (ℓ : Loc nD τ sig) → Buf (Elt F) ℓ) (ρ : Dev nD → PrngReg)

/-- The two calls' payloads, at the arrays @main hands them. -/
abbrev pays := P (tbl m) (ids m) (wide m)

/-- Nothing, held once for each index, is nothing. -/
theorem emps {I : Type} (s : Finset I) : (bigSep s fun _ => iprop(emp)) = (iprop(emp) : sProp 𝕄) := bigSep_emp_const s

/-- The launch's element gives the handshakes their rounds; a device and a thread need nothing else. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (pays m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 2 => (pays m).x q thr) = bigSep Finset.univ fun _ => iprop(emp) from
    bigSep_congr fun _ _ => emps _, emps]
  iempintro

/-- Before the gather: its three arrays are what its tasks start from, and the rest is kept. -/
theorem enter0 (d : Dev nD) : (held (SparseCore.T d) (Pipeline.ucRefs τ sig) (Val0 m d) : sProp 𝕄)
    ⊢ iprop((bigSep Finset.univ fun c : Fin ((K (F := F)).nCore 0) => (pays m).st 0 d c)
        ∗ held (SparseCore.T d) (Pipeline.ucRefs τ sig \ {arr main_v9, arr main_v0, arr main_v10}) (Val0 m d)) := by
  rw [held_sub_split (SparseCore.T d) three_sub, held_three]
  exact BI.sep_mono_l (st0 (tbl m d) (ids m d) d _)

/-- After the gather: what its tasks end with, and the rest, are every array with the output gathered. -/
theorem leave0 (d : Dev nD) : iprop((bigSep Finset.univ fun c : Fin ((K (F := F)).nCore 0) => (pays m).dn 0 d c)
        ∗ held (SparseCore.T d) (Pipeline.ucRefs τ sig \ {arr main_v9, arr main_v0, arr main_v10}) (Val0 m d))
    ⊢ (held (SparseCore.T d) (Pipeline.ucRefs τ sig) (Val1 m d) : sProp 𝕄) := by
  rw [held_sub_split (SparseCore.T d) three_sub (Val1 m d), held_three, rest0, Val1_ne m d (b := arr main_v9) (by decide),
    Val1_ne m d (b := arr main_v0) (by decide), Val1_v10]
  exact BI.sep_mono_l (dn0 (tbl m d) (ids m d) d)

/-- Before the packing: its two arrays are what its tasks start from, and the rest is kept. -/
theorem enter1 (d : Dev nD) : (held (SparseCore.T d) (Pipeline.ucRefs τ sig) (Val2 m d) : sProp 𝕄)
    ⊢ iprop((bigSep Finset.univ fun c : Fin ((K (F := F)).nCore 1) => (pays m).st 1 d c)
        ∗ held (SparseCore.T d) (Pipeline.ucRefs τ sig \ {arr main_v11, arr main_v12}) (Val2 m d)) := by
  rw [held_sub_split (SparseCore.T d) two_sub, held_two]
  exact BI.sep_mono_l (st1 (wide m d) d _)

/-- After the packing: what its tasks end with, and the rest, are every array with the result packed. -/
theorem leave1 (d : Dev nD) : iprop((bigSep Finset.univ fun c : Fin ((K (F := F)).nCore 1) => (pays m).dn 1 d c)
        ∗ held (SparseCore.T d) (Pipeline.ucRefs τ sig \ {arr main_v11, arr main_v12}) (Val2 m d))
    ⊢ (held (SparseCore.T d) (Pipeline.ucRefs τ sig) (Val3 m d) : sProp 𝕄) := by
  rw [held_sub_split (SparseCore.T d) two_sub (Val3 m d), held_two, rest1, Val3_ne m d (b := arr main_v11) (by decide), Val3_v12]
  exact BI.sep_mono_l (dn1 (wide m d) d)

/-- What a device ends holding: every array, at the contents @main leaves. -/
def FIN (d : Dev nD) : sProp 𝕄 := held (SparseCore.T d) (Pipeline.ucRefs τ sig) (Val4 m d)

set_option backward.isDefEq.respectTransparency.types false in
/-- @main on a device, from the launch's arrays to the final ones. -/
theorem hmain (κ : GSem nD τ sig → ℕ) (d : Dev nD) :
    iprop((K (F := F)).ctx EH (pays m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (fun b => m (d, b)) from
    Pipeline.unscopedBufs_held d (fun b => m (d, b)), main_lines]
  iintro ⟨#Hctx, Hst, ⟨Hb, Hheld, Hts, -⟩, -⟩
  iapply (wp_seq 𝒱 none Set.univ d (Pipeline.ucRefs τ sig) _ line0 sub0 fresh0 (fun b => m (d, b))) $$ [Hb Hheld]
  · isplitl [Hb] <;> iassumption
  iintro ⟨Hb, Hheld⟩
  rw [wp_bind]
  ihave Hheld := (show (held (SparseCore.T d) (Pipeline.ucRefs τ sig) (after line0 fun b => m (d, b)) : sProp 𝕄) ⊢ _ from enter0 m d) $$ Hheld
  icases Hheld with ⟨Hgo, Hrest⟩
  iapply ((K (F := F)).wp_run (D (F := F)) 𝒱 (EH := EH) (P := pays m) κ d 0) $$ [Hst Hgo Hb Hrest Hts]
  isplitr; · iexact Hctx
  isplitl [Hst]; · iexact Hst
  isplitl [Hgo]; · iexact Hgo
  iintro ⟨Hst, Hdn⟩
  ihave Hheld := (leave0 m d) $$ [Hdn Hrest]
  · isplitl [Hdn] <;> iassumption
  iapply (wp_seq 𝒱 none Set.univ d (Pipeline.ucRefs τ sig) _ line1 sub1 fresh1 (Val1 m d)) $$ [Hb Hheld]
  · isplitl [Hb] <;> iassumption
  iintro ⟨Hb, Hheld⟩
  rw [wp_bind]
  ihave Hheld := (show (held (SparseCore.T d) (Pipeline.ucRefs τ sig) (after line1 (Val1 m d)) : sProp 𝕄) ⊢ _ from enter1 m d) $$ Hheld
  icases Hheld with ⟨Hgo, Hrest⟩
  iapply ((K (F := F)).wp_run (D (F := F)) 𝒱 (EH := EH) (P := pays m) κ d 1) $$ [Hst Hgo Hb Hrest Hts]
  isplitr; · iexact Hctx
  isplitl [Hst]; · iexact Hst
  isplitl [Hgo]; · iexact Hgo
  iintro ⟨Hst, Hdn⟩
  ihave Hheld := (leave1 m d) $$ [Hdn Hrest]
  · isplitl [Hdn] <;> iassumption
  iapply (wp_seq 𝒱 none Set.univ d (Pipeline.ucRefs τ sig) _ line2 sub2 fresh2 (Val3 m d)) $$ [Hb Hheld]
  · isplitl [Hb] <;> iassumption
  iintro ⟨Hb, Hheld⟩
  rw [wp_pure]
  imodintro
  isplitl [Hst]; · iexact Hst
  isplitl [Hheld]; · unfold FIN Val4; iexact Hheld
  isplitl [Hb] <;> iassumption

/-- What the claims read of a device's final state: every array of @main's at the contents @main leaves. -/
def fq (d : Dev nD) (s' : Phys nD τ sig (Elt F)) : Prop := ∀ b ∈ Pipeline.ucRefs τ sig, s'.mem.mem (d, b) = Val4 m d b

/-- In a final state every array of the device is at the contents that @main leaves. -/
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- How the program ends: every array of @main's at the contents @main leaves, every semaphore at zero. -/
def QC : PUnit × MemSt nD τ sig (Elt F) → Prop := fun r =>
  (∀ d : Dev nD, ∀ b ∈ Pipeline.ucRefs τ sig, r.2.mem (d, b) = Val4 m d b) ∧ r.2.sem = fun _ => 0

/-- The program's run, from any memory whose ids name rows of the table. -/
theorem run_main [∀ e, Nonempty (Elt F e)] (hin : ∀ d x, (ids m d x).toNat < 1572864) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := pays m) (A := ∅) facts v₀
    (fun q hq => match q with | 0 => nomatch hq | 1 => nomatch hq)
    (fun q _ => match q with | 0 => obl0 (tbl m) (ids m) (wide m) facts hin | 1 => obl1 (tbl m) (ids m) (wide m) facts)
    (fun q _ => match q with
      | 0 => SparseCore.Cfg.VecSplit.of_plain (split0 (tbl m) (ids m) (wide m))
      | 1 => SparseCore.Cfg.VecSplit.of_plain (split1 (tbl m) (ids m) (wide m)))
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.HostValue.lean ====
/-
  The host's arrays as values: the table in rows of sixteen, the row numbers, the wide rows, the result.
-/
module

public import proofs.«01_k».proof.Proof.Host
public import Idealize.ShloMosaic.Lib.Pipeline.Value

@[expose] public section

noncomputable section

namespace Cert.Proof.Lookup

open Cert.KernelIdeal Cert.KernelIdeal.Gen
open Idealize.ShloMosaic Idealize.ShloMosaic.StableHlo Idealize.ShloMosaic.TcCoe
open Idealize.SL.Sem
open Idealize.ShloMosaic.ValueIdx

variable {F : FTy → Type} [FloatOps F]

variable (m : (ℓ : Loc nD τ sig) → Buf (Elt F) ℓ) (d : Dev nD)

/-- The features the launch starts with. -/
abbrev feat : S786432x32.Idx → Elt F .f32 := m (d, arr main_arg0)

/-- The point ids the launch starts with. -/
abbrev pid : S1048576.Idx → Elt F .i32 := m (d, arr main_arg1)

/-- The gather's table is the features, sixteen to a row. -/
theorem tbl_eq : tbl m d = shapeCast S1572864x16 (feat m d) shapeCasts_S786432x32_S1572864x16 := by
  unfold tbl Val0
  after_results
  rfl

/-- The rows asked for: twice each id, and the row after it. -/
theorem ids_eq : ids m d = shapeCast S2097152 (addi
      (broadcastInDim S1048576x2 ![0, 1] bcast_S1048576x1_S1048576x2_0_1
        (muli (broadcastInDim S1048576x1 ![] bcast_S_S1048576x1 (constantI S_ 32 2#32)) (broadcastInDim S1048576x1 ![0] bcast_S1048576_S1048576x1_0 (pid m d))))
      (broadcastInDim S1048576x2 ![0, 1] bcast_S1x2_S1048576x2_0_1 (broadcastInDim S1x2 ![1] bcast_S2_S1x2_1 (iotaInDim S2 32 0)))) shapeCasts_S1048576x2_S2097152 := by
  unfold ids Val0
  after_results
  rfl

/-- The wide rows are the gathered ones, eight to a row. -/
theorem wide_eq : wide m d = shapeCast S262144x128 (gath (tbl m d) (ids m d)) shapeCasts_S2097152x16_S262144x128 := by
  rw [← Val1_v10]
  unfold wide Val2
  after_results
  rfl

/-- The result is the wide rows packed. -/
theorem res_eq : Val4 m d (arr main_v13) = pack (wide m d) := by
  rw [← Val3_v12]
  unfold Val4
  after_results
  rfl

/-- The features end as they were. -/
theorem arg0_eq : Val4 m d (arr main_arg0) = feat m d := by
  have h1 := Val1_ne m d (b := arr main_arg0) (by decide)
  have h3 := Val3_ne m d (b := arr main_arg0) (by decide)
  unfold Val2 at h3
  unfold Val0 at h1
  unfold Val4
  after_results
  refine h3.trans ?_
  after_results
  refine h1.trans ?_
  after_results

/-- The point ids end as they were. -/
theorem arg1_eq : Val4 m d (arr main_arg1) = pid m d := by
  have h1 := Val1_ne m d (b := arr main_arg1) (by decide)
  have h3 := Val3_ne m d (b := arr main_arg1) (by decide)
  unfold Val2 at h3
  unfold Val0 at h1
  unfold Val4
  after_results
  refine h3.trans ?_
  after_results
  refine h1.trans ?_
  after_results

/-- The table at a row and a lane. -/
theorem tbl_at (r : Fin 1572864) (l : Fin 16) (k : Fin 786432) (c : Fin 32) (h : r.val * 16 + l.val = k.val * 32 + c.val) :
    tbl m d (ix2 r l) = feat m d (ix2 k c) := by
  rw [tbl_eq]
  refine shapeCast_apply _ _ _ _ ?_
  rw [Shape.rowMajor_val_two, Shape.rowMajor_val_two]
  exact h.symm

/-- The wide rows at a row and a lane. -/
theorem wide_at (r : Fin 262144) (l : Fin 128) (k : Fin 2097152) (c : Fin 16) (h : r.val * 128 + l.val = k.val * 16 + c.val) :
    wide m d (ix2 r l) = gath (tbl m d) (ids m d) (ix2 k c) := by
  rw [wide_eq]
  refine shapeCast_apply _ _ _ _ ?_
  rw [Shape.rowMajor_val_two, Shape.rowMajor_val_two]
  exact h.symm

/-- Row number `2 n + j`: twice id `n`, plus `j`. -/
theorem ids_at (p : Fin 2097152) (n : Fin 1048576) (j : Fin 2) (h : p.val = n.val * 2 + j.val) :
    ids m d (ix1 p) = IntOp.addi (IntOp.muli 2#32 (pid m d (ix1 n))) (BitVec.ofNat 32 j.val) := by
  rw [ids_eq]
  refine (shapeCast_apply _ _ (ix1 p) (ix2 n j) ?_).trans ?_
  · rw [Shape.rowMajor_val_two, Shape.rowMajor_val_one]
    exact h.symm
  · show IntOp.addi _ _ = _
    rw [broadcastInDim_apply _ _ _ (ix2 n j) (ix2 n (0 : Fin 1)) (fun a => by match a with | ⟨0, _⟩ => rfl | ⟨1, _⟩ => rfl),
      broadcastInDim_apply _ _ _ (ix2 n j) (ix2 (0 : Fin 1) j) (fun a => by match a with | ⟨0, _⟩ => rfl | ⟨1, _⟩ => rfl),
      broadcastInDim_apply _ _ _ (ix2 (0 : Fin 1) j) (ix1 j) (fun a => by match a with | ⟨0, _⟩ => rfl)]
    show IntOp.addi (IntOp.muli _ _) _ = _
    rw [broadcastInDim_apply _ _ _ (ix2 n (0 : Fin 1)) (ix1 n) (fun a => by match a with | ⟨0, _⟩ => rfl)]
    rfl

/-- Every id names a row of the features. -/
def InRows : Prop := ∀ d x, (pid m d x).toNat < 786432

/-- The numbers the row numbers are, for an id that names a row. -/
theorem ids_nat (hin : InRows m) (p : Fin 2097152) (n : Fin 1048576) (j : Fin 2) (h : p.val = n.val * 2 + j.val) :
    (ids m d (ix1 p)).toNat = 2 * (pid m d (ix1 n)).toNat + j.val := by
  have hn := hin d (ix1 n)
  have hj := j.isLt
  rw [ids_at m d p n j h]
  show (2#32 * pid m d (ix1 n) + BitVec.ofNat 32 j.val).toNat = _
  rw [BitVec.toNat_add, BitVec.toNat_mul, BitVec.toNat_ofNat, BitVec.toNat_ofNat]
  omega

/-- Every row number names a row of the table. -/
theorem ids_lt (hin : InRows m) (x : S2097152.Idx) : (ids m d x).toNat < 1572864 := by
  obtain ⟨p, rfl⟩ : ∃ p : Fin 2097152, x = ix1 p := ⟨x 0, eq_ix1 x⟩
  have hp := p.isLt
  have hn := hin d (ix1 (⟨p.val / 2, by omega⟩ : Fin 1048576))
  rw [ids_nat m d hin p ⟨p.val / 2, by omega⟩ ⟨p.val % 2, by omega⟩ (by show p.val = p.val / 2 * 2 + p.val % 2; omega)]
  show 2 * _ + p.val % 2 < _
  omega

/-- The result's row `n`, lane `c`: lane `c` of the features' row that id `n` names. -/
theorem res_at (hin : InRows m) (n : Fin 1048576) (c : Fin 32) :
    Val4 m d (arr main_v13) (ix2 n c) = feat m d (ix2 ⟨(pid m d (ix1 n)).toNat, hin d _⟩ c) := by
  have hn := n.isLt
  have hc := c.isLt
  have hk := hin d (ix1 n)
  rw [res_eq]
  show rd2 (wide m d) ((32 * n.val + c.val) / 128) (Fin.ofNat 128 (32 * n.val + c.val)) = _
  rw [rd2_val (wide m d) (ix2 (⟨(32 * n.val + c.val) / 128, by omega⟩ : Fin 262144) (Fin.ofNat 128 (32 * n.val + c.val))) rfl rfl,
    wide_at m d _ _ (⟨n.val * 2 + c.val / 16, by omega⟩ : Fin 2097152) (⟨c.val % 16, by omega⟩ : Fin 16)
      (by show (32 * n.val + c.val) / 128 * 128 + (32 * n.val + c.val) % 128 = (n.val * 2 + c.val / 16) * 16 + c.val % 16; omega)]
  show rd2 (tbl m d) (rd1 (ids m d) (n.val * 2 + c.val / 16)).toNat (⟨c.val % 16, by omega⟩ : Fin 16) = _
  rw [rd1_val (ids m d) (ix1 (⟨n.val * 2 + c.val / 16, by omega⟩ : Fin 2097152)) rfl,
    ids_nat m d hin _ n (⟨c.val / 16, by omega⟩ : Fin 2) rfl,
    rd2_val (tbl m d) (ix2 (⟨2 * (pid m d (ix1 n)).toNat + c.val / 16, by omega⟩ : Fin 1572864) (⟨c.val % 16, by omega⟩ : Fin 16)) rfl rfl]
  exact tbl_at m d _ _ _ _ (by
    show (2 * (pid m d (ix1 n)).toNat + c.val / 16) * 16 + c.val % 16 = (pid m d (ix1 n)).toNat * 32 + c.val
    omega)

end Cert.Proof.Lookup

end
-- ==== Proof.RefValue.lean ====
/-
  The reference's result as a value: under the precondition every row it takes is a row of the features, and no row is
  filled in.
-/
module

public import proofs.«01_k».proof.Defs
public import proofs.«01_k».proof.Proof.Gen.ReferenceIdeal
public import proofs.«01_k».proof.Proof.Gen.ReferenceIdeal.Run
public import Idealize.ShloMosaic.Lib.ValueIdx
public import Idealize.ShloMosaic.Lib.Pipeline.Value
public import Idealize.ShloMosaic.Lib.ReduceAll

@[expose] public section

noncomputable section

namespace Cert.Proof.Ref

open Cert.ReferenceIdeal Cert.ReferenceIdeal.Gen
open Idealize.ShloMosaic
open Idealize.SL.Sem
open Idealize.ShloMosaic.ValueIdx

/-- The conjunction of two truth words is the word of the conjunction. -/
theorem andi_ofBool (p q : Bool) : IntOp.andi (BitVec.ofBool p) (BitVec.ofBool q) = BitVec.ofBool (p && q) := by
  cases p <;> cases q <;> decide

/-- A truth word is one just when it stands for true. -/
theorem ofBool_one (p : Bool) : (BitVec.ofBool p = 1#1) ↔ p = true := by cases p <;> decide

/-- A word that is at least zero and below the number of rows, read signed, is a row's number. -/
theorem row_of_word (v : BitVec 32) (e : IntOp.andi (IntOp.cmpi .sge v 0#32) (IntOp.cmpi .slt v 786432#32) = 1#1) : v.toNat < 786432 := by
  simp only [IntOp.cmpi, andi_ofBool, ofBool_one, Bool.and_eq_true, BitVec.sle_eq_decide, BitVec.slt_eq_decide,
    decide_eq_true_eq, BitVec.toInt_eq_toNat_cond, BitVec.toNat_ofNat, Nat.reducePow, Nat.reduceMod] at e
  omega

/-- A row's number passes the reference's own test of it. -/
theorem test_of_row (v : BitVec 32) (h : v.toNat < 786432) : IntOp.andi (IntOp.cmpi .sge v 0#32) (IntOp.cmpi .sle v 786431#32) = 1#1 := by
  simp only [IntOp.cmpi, andi_ofBool, ofBool_one, Bool.and_eq_true, BitVec.sle_eq_decide,
    decide_eq_true_eq, BitVec.toInt_eq_toNat_cond, BitVec.toNat_ofNat, Nat.reducePow, Nat.reduceMod]
  omega

/-- A row's number is not below zero. -/
theorem slt_of_row (v : BitVec 32) (h : v.toNat < 786432) : IntOp.cmpi .slt v 0#32 = 0#1 := by
  have : v.slt 0#32 = false := by
    rw [BitVec.slt_eq_decide, decide_eq_false_iff_not, BitVec.toInt_eq_toNat_cond, BitVec.toInt_eq_toNat_cond]
    simp only [BitVec.toNat_ofNat, Nat.reducePow, Nat.reduceMod]
    omega
  simp only [IntOp.cmpi, this]
  rfl

section Gather

variable {α : Type}

/-- The reference's gather at row `n`, lane `c`: lane `c` of the features' row its index `n` names, when it names one. -/
theorem gather_at (x : S786432x32.Idx → α) (idx : IVec S1048576x1 32) (n : Fin 1048576) (c : Fin 32) (k : Fin 786432)
    (h : (idx (ix2 n (0 : Fin 1))).toNat = k.val) :
    Host.gather gather_S786432x32_S1048576x1_S1048576x32_1_0_n_n_0_1_132 x idx (ix2 n c) = x (ix2 k c) := by
  have hk := k.isLt
  unfold Host.gather
  congr 1
  funext a
  refine Fin.ext ?_
  show GatherDims.start gather_S786432x32_S1048576x1_S1048576x32_1_0_n_n_0_1_132 (ix2 n c) idx a
      + GatherDims.batchCoord gather_S786432x32_S1048576x1_S1048576x32_1_0_n_n_0_1_132 (ix2 n c) a
      + GatherDims.offCoord gather_S786432x32_S1048576x1_S1048576x32_1_0_n_n_0_1_132 (ix2 n c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ GatherDims.startIndexMap gather_S786432x32_S1048576x1_S1048576x32_1_0_n_n_0_1_132 from List.mem_singleton.mpr rfl)]
    have hsi : GatherDims.siIdx gather_S786432x32_S1048576x1_S1048576x32_1_0_n_n_0_1_132 (ix2 n c)
        ⟨List.idxOf (0 : Fin 2) (GatherDims.startIndexMap gather_S786432x32_S1048576x1_S1048576x32_1_0_n_n_0_1_132),
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    show min (idx (ix2 n (0 : Fin 1))).toInt.toNat 786431 + 0 + 0 = k.val
    rw [BitVec.toInt_eq_toNat_cond, h, if_pos (by omega)]
    omega
  · show 0 + 0 + c.val = c.val
    omega

end Gather

/-- The reference's index for each id: the id, or from the end when it is below zero. -/
abbrev wrapped (ids : S1048576.Idx → BitVec 32) : S1048576x1.Idx → BitVec 32 :=
  broadcastInDim S1048576x1 ![0] bcast_S1048576_S1048576x1_0 (select (cmpi .slt ids (broadcastInDim S1048576 ![] bcast_S_S1048576 (constantI S_ 32 0#32)))
    (addi ids (broadcastInDim S1048576 ![] bcast_S_S1048576 (constantI S_ 32 786432#32))) ids)

/-- An id that names a row is its own index. -/
theorem wrapped_at (ids : S1048576.Idx → BitVec 32) (hin : ∀ x, (ids x).toNat < 786432) (x : S1048576x1.Idx) :
    wrapped ids x = ids (ix1 (x 0)) := by
  refine (broadcastInDim_apply _ _ _ x (ix1 (x 0)) (fun a => by match a with | ⟨0, _⟩ => rfl)).trans ?_
  show Scalar.select (IntOp.cmpi .slt (ids (ix1 (x 0))) 0#32) _ _ = _
  rw [slt_of_row _ (hin _)]
  rfl

variable {F : FTy → Type} [FloatOps F]

/-- Where every id names a row, the reference's result at row `n`, lane `c` is lane `c` of the features' row id `n` names. -/
theorem ref_at (x : S786432x32.Idx → Elt F .f32) (ids : S1048576.Idx → BitVec 32) (fill : S1048576x32.Idx → Elt F .f32)
    (hin : ∀ x, (ids x).toNat < 786432) (n : Fin 1048576) (c : Fin 32) :
    select (broadcastInDim S1048576x32 ![0] bcast_S1048576_S1048576x32_0
        (Host.reduce IntOp.andi (andi (cmpi .sge (wrapped ids) (broadcastInDim S1048576x1 ![] bcast_S_S1048576x1 (constantI S_ 32 0#32)))
            (cmpi .sle (wrapped ids) (broadcastInDim S1048576x1 ![0, 1] bcast_S1x1_S1048576x1_0_1 (broadcastInDim S1x1 ![1] bcast_S1_S1x1_1 (constantI S1 32 786431#32)))))
          (constantI S_ 1 1#1) reducesTo_S1048576x1_S1048576_d1 h_S_))
      (Host.gather gather_S786432x32_S1048576x1_S1048576x32_1_0_n_n_0_1_132 x (wrapped ids)) fill (ix2 n c)
    = x (ix2 ⟨(ids (ix1 n)).toNat, hin _⟩ c) := by
  rw [select_apply, broadcastInDim_apply _ _ _ (ix2 n c) (ix1 n) (fun a => by match a with | ⟨0, _⟩ => rfl),
    Host.reduce_andi_one _ _ _ _ _ rfl (fun i => by
      show IntOp.andi (IntOp.cmpi .sge (wrapped ids i) 0#32) (IntOp.cmpi .sle (wrapped ids i) 786431#32) = 1#1
      rw [wrapped_at ids hin]
      exact test_of_row _ (hin _)), select_one]
  exact gather_at x _ n c _ (by rw [wrapped_at ids hin])

end Cert.Proof.Ref

end
-- ==== Proof.lean ====
/-
  The proof of `Cert.Claim`: the kernel's run (Proof/Launch.lean) read at its result (Proof/HostValue.lean), the
  reference's run read at its own (Proof/RefValue.lean), and the claims put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.HostValue
public import proofs.«01_k».proof.Proof.RefValue

@[expose] public section

noncomputable section

namespace Cert.Proof

open Idealize.ShloMosaic Idealize.SL.Sem Idealize.ShloMosaic.ValueIdx

/-- What the precondition's program is stated over. -/
theorem preFacts : Cert.Pre_ids_in_rows.Facts := ⟨by decide⟩

attribute [local instance] Cert.Kernel.Gen.facts Cert.KernelIdeal.Gen.facts Cert.ReferenceIdeal.Gen.facts preFacts

/-- The precondition, all ones on every device, says that every id names a row of the features. -/
theorem rows_of_pre {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_ids_in_rows.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) : Lookup.InRows m := by
  intro d x
  have e := congrFun (h d) x
  simp only [Pre_ids_in_rows.fn, andi, cmpi, broadcastInDim, constantI] at e
  exact Ref.row_of_word _ e

/-- The kernel's run at any float values: its result is what @main leaves there, its arguments end unchanged, and every
    semaphore ends at zero. -/
theorem kernel_run {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg) (hin : Lookup.InRows m) :
    θ_run (Cert.KernelIdeal.defs (F := F)) (Cert.KernelIdeal.threads (F := F)) ⟨m, fun _ => 0, g⟩ (fun r =>
      (∀ c : Dev Cert.KernelIdeal.nD,
        r.2.mem ((c.tc : Thread Cert.KernelIdeal.nD Cert.KernelIdeal.τ).loc Cert.KernelIdeal.main_v13) = Lookup.Val4 m c (Lookup.arr Cert.KernelIdeal.main_v13)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => ⟨h.1 c (Lookup.arr Cert.KernelIdeal.main_v13) (by decide),
      (h.1 c (Lookup.arr Cert.KernelIdeal.main_arg0) (by decide)).trans (Lookup.arg0_eq m c),
      (h.1 c (Lookup.arr Cert.KernelIdeal.main_arg1) (by decide)).trans (Lookup.arg1_eq m c)⟩, h.2⟩)
    (Lookup.run_main m g fun d => Lookup.ids_lt m d hin)

/-- The kernel runs at its own bits. -/
theorem frame_kernel : Cert.quiescent_Kernel := fun m g hpre =>
  (θ_run _ _ _).mono (fun _ h => ⟨fun c => (h.1 c).2, h.2⟩) (kernel_run (F := Bits) m g (rows_of_pre m hpre))

/-- The kernel runs at the ideal floats. -/
theorem frame_ideal : Cert.quiescent_KernelIdeal := fun m g hpre =>
  (θ_run _ _ _).mono (fun _ h => ⟨fun c => (h.1 c).2, h.2⟩) (kernel_run (F := Ideal) m g (rows_of_pre m hpre))

/-- The reference runs at the ideal floats, from any memory; it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run (F := Ideal) m g)

/-- The kernel's result is the reference's, element by element: both are the features' rows that the ids name. -/
theorem algebraic : Cert.algebraic_KernelIdeal_ReferenceIdeal := by
  intro m g m' g' hpre hagree
  have hin := rows_of_pre m hpre
  refine ⟨fun c => Lookup.Val4 m c (Lookup.arr Cert.KernelIdeal.main_v13), (θ_run _ _ _).mono (fun _ h => h.1) (kernel_run (F := Ideal) m g hin),
    (θ_run _ _ _).mono (fun r h c => ⟨(h c).1.trans ?_, (h c).2⟩) (Cert.ReferenceIdeal.Value.run (F := Ideal) m' g')⟩
  rw [(hagree c).1, (hagree c).2]
  funext x
  obtain ⟨n, l, rfl⟩ : ∃ (n : Fin 1048576) (l : Fin 32), x = ix2 n l := ⟨x 0, x 1, eq_ix2 x⟩
  exact (Ref.ref_at (F := Ideal) (Lookup.feat m c) (Lookup.pid m c) _ (hin c) n l).trans (Lookup.res_at m c hin n l).symm

/-- Everything this certificate claims. -/
theorem claim : Cert.Claim :=
  ⟨Cert.Kernel.Gen.facts, Cert.KernelIdeal.Gen.facts, Cert.ReferenceIdeal.Gen.facts, preFacts, frame_kernel, frame_ideal,
    fun m g _ => reference_frame m g, fun m g _ => reference_frame m g, trivial, algebraic⟩

end Cert.Proof

end
